-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1024x8192 : Shape := ⟨2, ![1024, 8192]⟩
abbrev S3x1024x1024 : Shape := ⟨3, ![3, 1024, 1024]⟩
abbrev S1024x1024 : Shape := ⟨2, ![1024, 1024]⟩
abbrev S3x512x1024 : Shape := ⟨3, ![3, 512, 1024]⟩
abbrev S8x128 : Shape := ⟨2, ![8, 128]⟩
abbrev S4x8x128 : Shape := ⟨3, ![4, 8, 128]⟩
abbrev S3x2 : Shape := ⟨2, ![3, 2]⟩
abbrev S4 : Shape := ⟨1, ![4]⟩
abbrev S3 : Shape := ⟨1, ![3]⟩
abbrev S2 : Shape := ⟨1, ![2]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x1024x1024 : Shape := ⟨3, ![1, 1024, 1024]⟩
abbrev S1x1 : Shape := ⟨2, ![1, 1]⟩
abbrev S1x1024x512 : Shape := ⟨3, ![1, 1024, 512]⟩
abbrev S1024x512 : Shape := ⟨2, ![1024, 512]⟩
abbrev S1x1x1 : Shape := ⟨3, ![1, 1, 1]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S1024x8192, .f32⟩
  | .local _ .vmem, ⟨0, _⟩ => ⟨S1024x8192, .f32⟩
  | .local _ .vmem, ⟨1, _⟩ => ⟨S3x1024x1024, .bf16⟩
  | .local _ .vmem, ⟨2, _⟩ => ⟨S3x1024x1024, .bf16⟩
  | .local _ .vmem, ⟨3, _⟩ => ⟨S1024x1024, .f32⟩
  | .local _ .vmem, ⟨4, _⟩ => ⟨S3x512x1024, .f32⟩
  | .local _ .vmem, ⟨5, _⟩ => ⟨S8x128, .f32⟩
  | .local _ .vmem, ⟨6, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c0_i32_28 : BitVec 32) (c0_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c0_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32 : BitVec 32 := 1024#32
  let v54 : BitVec 32 := Scalar.muli v53 c1024_i32
  let v55 : BitVec 32 := Scalar.addi v54 c0_i32_35
  let c0_i32_40 : BitVec 32 := 0#32
  ![v55.toNat, 0]
def k0_off2 (d0 : Dev nD) (c0_i32_41 : BitVec 32) (c0_i32_49 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v61 : BitVec 32 := Scalar.addi v2 c0_i32_41
  let c4_i32_42 : BitVec 32 := 4#32
  let c0_i32_43 : BitVec 32 := 0#32
  let v62 : BitVec 1 := Scalar.cmpi .eq c4_i32_42 c0_i32_43
  let c1_i32_44 : BitVec 32 := 1#32
  let v63 : BitVec 32 := Scalar.select v62 c1_i32_44 c4_i32_42
  let v64 : BitVec 32 := Scalar.remsi v61 v63
  let c0_i32_46 : BitVec 32 := 0#32
  let v66 : BitVec 1 := Scalar.cmpi .slt v64 c0_i32_46
  let c0_i32_47 : BitVec 32 := 0#32
  let v67 : BitVec 1 := Scalar.cmpi .slt v63 c0_i32_47
  let v68 : BitVec 1 := Scalar.xori v66 v67
  let c0_i32_45 : BitVec 32 := 0#32
  let v65 : BitVec 1 := Scalar.cmpi .ne v64 c0_i32_45
  let v69 : BitVec 1 := Scalar.andi v68 v65
  let v70 : BitVec 32 := Scalar.addi v64 v63
  let v71 : BitVec 32 := Scalar.select v69 v70 v64
  let c1024_i32_48 : BitVec 32 := 1024#32
  let v72 : BitVec 32 := Scalar.muli v71 c1024_i32_48
  let v73 : BitVec 32 := Scalar.addi v72 c0_i32_49
  let c1024_i32_54 : BitVec 32 := 1024#32
  ![v73.toNat, 1024]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_55 : BitVec 32 := 1024#32
  let v79 : BitVec 32 := Scalar.muli v2 c1024_i32_55
  let c0_i32_56 : BitVec 32 := 0#32
  ![v79.toNat, 0]
def k0_off4 (d0 : Dev nD) (c1_i32_57 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c1_i32_57
  let c4_i32_58 : BitVec 32 := 4#32
  let c0_i32_59 : BitVec 32 := 0#32
  let v82 : BitVec 1 := Scalar.cmpi .eq c4_i32_58 c0_i32_59
  let c1_i32_60 : BitVec 32 := 1#32
  let v83 : BitVec 32 := Scalar.select v82 c1_i32_60 c4_i32_58
  let v84 : BitVec 32 := Scalar.remsi v81 v83
  let c0_i32_62 : BitVec 32 := 0#32
  let v86 : BitVec 1 := Scalar.cmpi .slt v84 c0_i32_62
  let c0_i32_63 : BitVec 32 := 0#32
  let v87 : BitVec 1 := Scalar.cmpi .slt v83 c0_i32_63
  let v88 : BitVec 1 := Scalar.xori v86 v87
  let c0_i32_61 : BitVec 32 := 0#32
  let v85 : BitVec 1 := Scalar.cmpi .ne v84 c0_i32_61
  let v89 : BitVec 1 := Scalar.andi v88 v85
  let v90 : BitVec 32 := Scalar.addi v84 v83
  let v91 : BitVec 32 := Scalar.select v89 v90 v84
  let c1024_i32_64 : BitVec 32 := 1024#32
  let v92 : BitVec 32 := Scalar.muli v91 c1024_i32_64
  let c0_i32_66 : BitVec 32 := 0#32
  ![v92.toNat, 0]
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_57 : BitVec 32 := 1#32
  let v81 : BitVec 32 := Scalar.addi v2 c1_i32_57
  let c4_i32_58 : BitVec 32 := 4#32
  let c0_i32_59 : BitVec 32 := 0#32
  let v82 : BitVec 1 := Scalar.cmpi .eq c4_i32_58 c0_i32_59
  let c1_i32_60 : BitVec 32 := 1#32
  let v83 : BitVec 32 := Scalar.select v82 c1_i32_60 c4_i32_58
  let v84 : BitVec 32 := Scalar.remsi v81 v83
  let c0_i32_62 : BitVec 32 := 0#32
  let v86 : BitVec 1 := Scalar.cmpi .slt v84 c0_i32_62
  let c0_i32_63 : BitVec 32 := 0#32
  let v87 : BitVec 1 := Scalar.cmpi .slt v83 c0_i32_63
  let v88 : BitVec 1 := Scalar.xori v86 v87
  let c0_i32_61 : BitVec 32 := 0#32
  let v85 : BitVec 1 := Scalar.cmpi .ne v84 c0_i32_61
  let v89 : BitVec 1 := Scalar.andi v88 v85
  let v90 : BitVec 32 := Scalar.addi v84 v83
  let v91 : BitVec 32 := Scalar.select v89 v90 v84
  let c1_i32_79 : BitVec 32 := 1#32
  let v102 : BitVec 32 := Scalar.muli v91 c1_i32_79
  let v103 : BitVec 32 := Scalar.addi c0_i32_80 v102
  v103.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_57 : BitVec 32 := 1#32
  let v81 : BitVec 32 := Scalar.addi v2 c1_i32_57
  let c4_i32_58 : BitVec 32 := 4#32
  let c0_i32_59 : BitVec 32 := 0#32
  let v82 : BitVec 1 := Scalar.cmpi .eq c4_i32_58 c0_i32_59
  let c1_i32_60 : BitVec 32 := 1#32
  let v83 : BitVec 32 := Scalar.select v82 c1_i32_60 c4_i32_58
  let v84 : BitVec 32 := Scalar.remsi v81 v83
  let c0_i32_62 : BitVec 32 := 0#32
  let v86 : BitVec 1 := Scalar.cmpi .slt v84 c0_i32_62
  let c0_i32_63 : BitVec 32 := 0#32
  let v87 : BitVec 1 := Scalar.cmpi .slt v83 c0_i32_63
  let v88 : BitVec 1 := Scalar.xori v86 v87
  let c0_i32_61 : BitVec 32 := 0#32
  let v85 : BitVec 1 := Scalar.cmpi .ne v84 c0_i32_61
  let v89 : BitVec 1 := Scalar.andi v88 v85
  let v90 : BitVec 32 := Scalar.addi v84 v83
  let v91 : BitVec 32 := Scalar.select v89 v90 v84
  let c1_i32_91 : BitVec 32 := 1#32
  let v112 : BitVec 32 := Scalar.muli v91 c1_i32_91
  let v113 : BitVec 32 := Scalar.addi c0_i32_92 v112
  v113.toNat
def k0_dev6 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_96 : BitVec 32 := 3#32
  let v122 : BitVec 32 := Scalar.addi v2 c3_i32_96
  let c4_i32_97 : BitVec 32 := 4#32
  let c0_i32_98 : BitVec 32 := 0#32
  let v123 : BitVec 1 := Scalar.cmpi .eq c4_i32_97 c0_i32_98
  let c1_i32_99 : BitVec 32 := 1#32
  let v124 : BitVec 32 := Scalar.select v123 c1_i32_99 c4_i32_97
  let v125 : BitVec 32 := Scalar.remsi v122 v124
  let c0_i32_101 : BitVec 32 := 0#32
  let v127 : BitVec 1 := Scalar.cmpi .slt v125 c0_i32_101
  let c0_i32_102 : BitVec 32 := 0#32
  let v128 : BitVec 1 := Scalar.cmpi .slt v124 c0_i32_102
  let v129 : BitVec 1 := Scalar.xori v127 v128
  let c0_i32_100 : BitVec 32 := 0#32
  let v126 : BitVec 1 := Scalar.cmpi .ne v125 c0_i32_100
  let v130 : BitVec 1 := Scalar.andi v129 v126
  let v131 : BitVec 32 := Scalar.addi v125 v124
  let v132 : BitVec 32 := Scalar.select v130 v131 v125
  let c1_i32_120 : BitVec 32 := 1#32
  let v143 : BitVec 32 := Scalar.muli v132 c1_i32_120
  let v144 : BitVec 32 := Scalar.addi c0_i32_121 v143
  v144.toNat
def k0_dev7 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_96 : BitVec 32 := 3#32
  let v122 : BitVec 32 := Scalar.addi v2 c3_i32_96
  let c4_i32_97 : BitVec 32 := 4#32
  let c0_i32_98 : BitVec 32 := 0#32
  let v123 : BitVec 1 := Scalar.cmpi .eq c4_i32_97 c0_i32_98
  let c1_i32_99 : BitVec 32 := 1#32
  let v124 : BitVec 32 := Scalar.select v123 c1_i32_99 c4_i32_97
  let v125 : BitVec 32 := Scalar.remsi v122 v124
  let c0_i32_101 : BitVec 32 := 0#32
  let v127 : BitVec 1 := Scalar.cmpi .slt v125 c0_i32_101
  let c0_i32_102 : BitVec 32 := 0#32
  let v128 : BitVec 1 := Scalar.cmpi .slt v124 c0_i32_102
  let v129 : BitVec 1 := Scalar.xori v127 v128
  let c0_i32_100 : BitVec 32 := 0#32
  let v126 : BitVec 1 := Scalar.cmpi .ne v125 c0_i32_100
  let v130 : BitVec 1 := Scalar.andi v129 v126
  let v131 : BitVec 32 := Scalar.addi v125 v124
  let v132 : BitVec 32 := Scalar.select v130 v131 v125
  let c1_i32_132 : BitVec 32 := 1#32
  let v153 : BitVec 32 := Scalar.muli v132 c1_i32_132
  let v154 : BitVec 32 := Scalar.addi c0_i32_133 v153
  v154.toNat
def k0_dev8 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_138 : BitVec 32 := 2#32
  let v163 : BitVec 32 := Scalar.addi v2 c2_i32_138
  let c4_i32_139 : BitVec 32 := 4#32
  let c0_i32_140 : BitVec 32 := 0#32
  let v164 : BitVec 1 := Scalar.cmpi .eq c4_i32_139 c0_i32_140
  let c1_i32_141 : BitVec 32 := 1#32
  let v165 : BitVec 32 := Scalar.select v164 c1_i32_141 c4_i32_139
  let v166 : BitVec 32 := Scalar.remsi v163 v165
  let c0_i32_143 : BitVec 32 := 0#32
  let v168 : BitVec 1 := Scalar.cmpi .slt v166 c0_i32_143
  let c0_i32_144 : BitVec 32 := 0#32
  let v169 : BitVec 1 := Scalar.cmpi .slt v165 c0_i32_144
  let v170 : BitVec 1 := Scalar.xori v168 v169
  let c0_i32_142 : BitVec 32 := 0#32
  let v167 : BitVec 1 := Scalar.cmpi .ne v166 c0_i32_142
  let v171 : BitVec 1 := Scalar.andi v170 v167
  let v172 : BitVec 32 := Scalar.addi v166 v165
  let v173 : BitVec 32 := Scalar.select v171 v172 v166
  let c1_i32_162 : BitVec 32 := 1#32
  let v184 : BitVec 32 := Scalar.muli v173 c1_i32_162
  let v185 : BitVec 32 := Scalar.addi c0_i32_163 v184
  v185.toNat
def k0_dev9 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_138 : BitVec 32 := 2#32
  let v163 : BitVec 32 := Scalar.addi v2 c2_i32_138
  let c4_i32_139 : BitVec 32 := 4#32
  let c0_i32_140 : BitVec 32 := 0#32
  let v164 : BitVec 1 := Scalar.cmpi .eq c4_i32_139 c0_i32_140
  let c1_i32_141 : BitVec 32 := 1#32
  let v165 : BitVec 32 := Scalar.select v164 c1_i32_141 c4_i32_139
  let v166 : BitVec 32 := Scalar.remsi v163 v165
  let c0_i32_143 : BitVec 32 := 0#32
  let v168 : BitVec 1 := Scalar.cmpi .slt v166 c0_i32_143
  let c0_i32_144 : BitVec 32 := 0#32
  let v169 : BitVec 1 := Scalar.cmpi .slt v165 c0_i32_144
  let v170 : BitVec 1 := Scalar.xori v168 v169
  let c0_i32_142 : BitVec 32 := 0#32
  let v167 : BitVec 1 := Scalar.cmpi .ne v166 c0_i32_142
  let v171 : BitVec 1 := Scalar.andi v170 v167
  let v172 : BitVec 32 := Scalar.addi v166 v165
  let v173 : BitVec 32 := Scalar.select v171 v172 v166
  let c1_i32_174 : BitVec 32 := 1#32
  let v194 : BitVec 32 := Scalar.muli v173 c1_i32_174
  let v195 : BitVec 32 := Scalar.addi c0_i32_175 v194
  v195.toNat
def k0_off5 (d0 : Dev nD) (c0_i32_181 : BitVec 32) (c0_i32_189 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v205 : BitVec 32 := Scalar.addi v2 c0_i32_181
  let c4_i32_182 : BitVec 32 := 4#32
  let c0_i32_183 : BitVec 32 := 0#32
  let v206 : BitVec 1 := Scalar.cmpi .eq c4_i32_182 c0_i32_183
  let c1_i32_184 : BitVec 32 := 1#32
  let v207 : BitVec 32 := Scalar.select v206 c1_i32_184 c4_i32_182
  let v208 : BitVec 32 := Scalar.remsi v205 v207
  let c0_i32_186 : BitVec 32 := 0#32
  let v210 : BitVec 1 := Scalar.cmpi .slt v208 c0_i32_186
  let c0_i32_187 : BitVec 32 := 0#32
  let v211 : BitVec 1 := Scalar.cmpi .slt v207 c0_i32_187
  let v212 : BitVec 1 := Scalar.xori v210 v211
  let c0_i32_185 : BitVec 32 := 0#32
  let v209 : BitVec 1 := Scalar.cmpi .ne v208 c0_i32_185
  let v213 : BitVec 1 := Scalar.andi v212 v209
  let v214 : BitVec 32 := Scalar.addi v208 v207
  let v215 : BitVec 32 := Scalar.select v213 v214 v208
  let c1024_i32_188 : BitVec 32 := 1024#32
  let v216 : BitVec 32 := Scalar.muli v215 c1024_i32_188
  let v217 : BitVec 32 := Scalar.addi v216 c0_i32_189
  let c2048_i32 : BitVec 32 := 2048#32
  ![v217.toNat, 2048]
def k0_off6 (d0 : Dev nD) (c0_i32_215 : BitVec 32) (c0_i32_223 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v248 : BitVec 32 := Scalar.addi v2 c0_i32_215
  let c4_i32_216 : BitVec 32 := 4#32
  let c0_i32_217 : BitVec 32 := 0#32
  let v249 : BitVec 1 := Scalar.cmpi .eq c4_i32_216 c0_i32_217
  let c1_i32_218 : BitVec 32 := 1#32
  let v250 : BitVec 32 := Scalar.select v249 c1_i32_218 c4_i32_216
  let v251 : BitVec 32 := Scalar.remsi v248 v250
  let c0_i32_220 : BitVec 32 := 0#32
  let v253 : BitVec 1 := Scalar.cmpi .slt v251 c0_i32_220
  let c0_i32_221 : BitVec 32 := 0#32
  let v254 : BitVec 1 := Scalar.cmpi .slt v250 c0_i32_221
  let v255 : BitVec 1 := Scalar.xori v253 v254
  let c0_i32_219 : BitVec 32 := 0#32
  let v252 : BitVec 1 := Scalar.cmpi .ne v251 c0_i32_219
  let v256 : BitVec 1 := Scalar.andi v255 v252
  let v257 : BitVec 32 := Scalar.addi v251 v250
  let v258 : BitVec 32 := Scalar.select v256 v257 v251
  let c1024_i32_222 : BitVec 32 := 1024#32
  let v259 : BitVec 32 := Scalar.muli v258 c1024_i32_222
  let v260 : BitVec 32 := Scalar.addi v259 c0_i32_223
  let c3072_i32 : BitVec 32 := 3072#32
  ![v260.toNat, 3072]
def k0_off7 (d0 : Dev nD) (c0_i32_249 : BitVec 32) (c0_i32_257 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v291 : BitVec 32 := Scalar.addi v2 c0_i32_249
  let c4_i32_250 : BitVec 32 := 4#32
  let c0_i32_251 : BitVec 32 := 0#32
  let v292 : BitVec 1 := Scalar.cmpi .eq c4_i32_250 c0_i32_251
  let c1_i32_252 : BitVec 32 := 1#32
  let v293 : BitVec 32 := Scalar.select v292 c1_i32_252 c4_i32_250
  let v294 : BitVec 32 := Scalar.remsi v291 v293
  let c0_i32_254 : BitVec 32 := 0#32
  let v296 : BitVec 1 := Scalar.cmpi .slt v294 c0_i32_254
  let c0_i32_255 : BitVec 32 := 0#32
  let v297 : BitVec 1 := Scalar.cmpi .slt v293 c0_i32_255
  let v298 : BitVec 1 := Scalar.xori v296 v297
  let c0_i32_253 : BitVec 32 := 0#32
  let v295 : BitVec 1 := Scalar.cmpi .ne v294 c0_i32_253
  let v299 : BitVec 1 := Scalar.andi v298 v295
  let v300 : BitVec 32 := Scalar.addi v294 v293
  let v301 : BitVec 32 := Scalar.select v299 v300 v294
  let c1024_i32_256 : BitVec 32 := 1024#32
  let v302 : BitVec 32 := Scalar.muli v301 c1024_i32_256
  let v303 : BitVec 32 := Scalar.addi v302 c0_i32_257
  let c4096_i32 : BitVec 32 := 4096#32
  ![v303.toNat, 4096]
def k0_off8 (d0 : Dev nD) (c0_i32_283 : BitVec 32) (c0_i32_291 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v334 : BitVec 32 := Scalar.addi v2 c0_i32_283
  let c4_i32_284 : BitVec 32 := 4#32
  let c0_i32_285 : BitVec 32 := 0#32
  let v335 : BitVec 1 := Scalar.cmpi .eq c4_i32_284 c0_i32_285
  let c1_i32_286 : BitVec 32 := 1#32
  let v336 : BitVec 32 := Scalar.select v335 c1_i32_286 c4_i32_284
  let v337 : BitVec 32 := Scalar.remsi v334 v336
  let c0_i32_288 : BitVec 32 := 0#32
  let v339 : BitVec 1 := Scalar.cmpi .slt v337 c0_i32_288
  let c0_i32_289 : BitVec 32 := 0#32
  let v340 : BitVec 1 := Scalar.cmpi .slt v336 c0_i32_289
  let v341 : BitVec 1 := Scalar.xori v339 v340
  let c0_i32_287 : BitVec 32 := 0#32
  let v338 : BitVec 1 := Scalar.cmpi .ne v337 c0_i32_287
  let v342 : BitVec 1 := Scalar.andi v341 v338
  let v343 : BitVec 32 := Scalar.addi v337 v336
  let v344 : BitVec 32 := Scalar.select v342 v343 v337
  let c1024_i32_290 : BitVec 32 := 1024#32
  let v345 : BitVec 32 := Scalar.muli v344 c1024_i32_290
  let v346 : BitVec 32 := Scalar.addi v345 c0_i32_291
  let c5120_i32 : BitVec 32 := 5120#32
  ![v346.toNat, 5120]
def k0_off9 (d0 : Dev nD) (c0_i32_317 : BitVec 32) (c0_i32_325 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v377 : BitVec 32 := Scalar.addi v2 c0_i32_317
  let c4_i32_318 : BitVec 32 := 4#32
  let c0_i32_319 : BitVec 32 := 0#32
  let v378 : BitVec 1 := Scalar.cmpi .eq c4_i32_318 c0_i32_319
  let c1_i32_320 : BitVec 32 := 1#32
  let v379 : BitVec 32 := Scalar.select v378 c1_i32_320 c4_i32_318
  let v380 : BitVec 32 := Scalar.remsi v377 v379
  let c0_i32_322 : BitVec 32 := 0#32
  let v382 : BitVec 1 := Scalar.cmpi .slt v380 c0_i32_322
  let c0_i32_323 : BitVec 32 := 0#32
  let v383 : BitVec 1 := Scalar.cmpi .slt v379 c0_i32_323
  let v384 : BitVec 1 := Scalar.xori v382 v383
  let c0_i32_321 : BitVec 32 := 0#32
  let v381 : BitVec 1 := Scalar.cmpi .ne v380 c0_i32_321
  let v385 : BitVec 1 := Scalar.andi v384 v381
  let v386 : BitVec 32 := Scalar.addi v380 v379
  let v387 : BitVec 32 := Scalar.select v385 v386 v380
  let c1024_i32_324 : BitVec 32 := 1024#32
  let v388 : BitVec 32 := Scalar.muli v387 c1024_i32_324
  let v389 : BitVec 32 := Scalar.addi v388 c0_i32_325
  let c6144_i32 : BitVec 32 := 6144#32
  ![v389.toNat, 6144]
def k0_off10 (d0 : Dev nD) (c0_i32_351 : BitVec 32) (c0_i32_359 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v420 : BitVec 32 := Scalar.addi v2 c0_i32_351
  let c4_i32_352 : BitVec 32 := 4#32
  let c0_i32_353 : BitVec 32 := 0#32
  let v421 : BitVec 1 := Scalar.cmpi .eq c4_i32_352 c0_i32_353
  let c1_i32_354 : BitVec 32 := 1#32
  let v422 : BitVec 32 := Scalar.select v421 c1_i32_354 c4_i32_352
  let v423 : BitVec 32 := Scalar.remsi v420 v422
  let c0_i32_356 : BitVec 32 := 0#32
  let v425 : BitVec 1 := Scalar.cmpi .slt v423 c0_i32_356
  let c0_i32_357 : BitVec 32 := 0#32
  let v426 : BitVec 1 := Scalar.cmpi .slt v422 c0_i32_357
  let v427 : BitVec 1 := Scalar.xori v425 v426
  let c0_i32_355 : BitVec 32 := 0#32
  let v424 : BitVec 1 := Scalar.cmpi .ne v423 c0_i32_355
  let v428 : BitVec 1 := Scalar.andi v427 v424
  let v429 : BitVec 32 := Scalar.addi v423 v422
  let v430 : BitVec 32 := Scalar.select v428 v429 v423
  let c1024_i32_358 : BitVec 32 := 1024#32
  let v431 : BitVec 32 := Scalar.muli v430 c1024_i32_358
  let v432 : BitVec 32 := Scalar.addi v431 c0_i32_359
  let c7168_i32_364 : BitVec 32 := 7168#32
  ![v432.toNat, 7168]
def k0_dev10 (d0 : Dev nD) : Nat :=
  let c0_i32_2685 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2674 : BitVec 32 := 1#32
  let v3173 : BitVec 32 := Scalar.addi v2 c1_i32_2674
  let c4_i32_2675 : BitVec 32 := 4#32
  let c0_i32_2676 : BitVec 32 := 0#32
  let v3174 : BitVec 1 := Scalar.cmpi .eq c4_i32_2675 c0_i32_2676
  let c1_i32_2677 : BitVec 32 := 1#32
  let v3175 : BitVec 32 := Scalar.select v3174 c1_i32_2677 c4_i32_2675
  let v3176 : BitVec 32 := Scalar.remsi v3173 v3175
  let c0_i32_2679 : BitVec 32 := 0#32
  let v3178 : BitVec 1 := Scalar.cmpi .slt v3176 c0_i32_2679
  let c0_i32_2680 : BitVec 32 := 0#32
  let v3179 : BitVec 1 := Scalar.cmpi .slt v3175 c0_i32_2680
  let v3180 : BitVec 1 := Scalar.xori v3178 v3179
  let c0_i32_2678 : BitVec 32 := 0#32
  let v3177 : BitVec 1 := Scalar.cmpi .ne v3176 c0_i32_2678
  let v3181 : BitVec 1 := Scalar.andi v3180 v3177
  let v3182 : BitVec 32 := Scalar.addi v3176 v3175
  let v3183 : BitVec 32 := Scalar.select v3181 v3182 v3176
  let c1_i32_2684 : BitVec 32 := 1#32
  let v3184 : BitVec 32 := Scalar.muli v3183 c1_i32_2684
  let v3185 : BitVec 32 := Scalar.addi c0_i32_2685 v3184
  v3185.toNat
def k0_dev11 (d0 : Dev nD) : Nat :=
  let c0_i32_2699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_2688 : BitVec 32 := 3#32
  let v3192 : BitVec 32 := Scalar.addi v2 c3_i32_2688
  let c4_i32_2689 : BitVec 32 := 4#32
  let c0_i32_2690 : BitVec 32 := 0#32
  let v3193 : BitVec 1 := Scalar.cmpi .eq c4_i32_2689 c0_i32_2690
  let c1_i32_2691 : BitVec 32 := 1#32
  let v3194 : BitVec 32 := Scalar.select v3193 c1_i32_2691 c4_i32_2689
  let v3195 : BitVec 32 := Scalar.remsi v3192 v3194
  let c0_i32_2693 : BitVec 32 := 0#32
  let v3197 : BitVec 1 := Scalar.cmpi .slt v3195 c0_i32_2693
  let c0_i32_2694 : BitVec 32 := 0#32
  let v3198 : BitVec 1 := Scalar.cmpi .slt v3194 c0_i32_2694
  let v3199 : BitVec 1 := Scalar.xori v3197 v3198
  let c0_i32_2692 : BitVec 32 := 0#32
  let v3196 : BitVec 1 := Scalar.cmpi .ne v3195 c0_i32_2692
  let v3200 : BitVec 1 := Scalar.andi v3199 v3196
  let v3201 : BitVec 32 := Scalar.addi v3195 v3194
  let v3202 : BitVec 32 := Scalar.select v3200 v3201 v3195
  let c1_i32_2698 : BitVec 32 := 1#32
  let v3203 : BitVec 32 := Scalar.muli v3202 c1_i32_2698
  let v3204 : BitVec 32 := Scalar.addi c0_i32_2699 v3203
  v3204.toNat
def k0_dev12 (d0 : Dev nD) : Nat :=
  let c0_i32_2713 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2702 : BitVec 32 := 2#32
  let v3211 : BitVec 32 := Scalar.addi v2 c2_i32_2702
  let c4_i32_2703 : BitVec 32 := 4#32
  let c0_i32_2704 : BitVec 32 := 0#32
  let v3212 : BitVec 1 := Scalar.cmpi .eq c4_i32_2703 c0_i32_2704
  let c1_i32_2705 : BitVec 32 := 1#32
  let v3213 : BitVec 32 := Scalar.select v3212 c1_i32_2705 c4_i32_2703
  let v3214 : BitVec 32 := Scalar.remsi v3211 v3213
  let c0_i32_2707 : BitVec 32 := 0#32
  let v3216 : BitVec 1 := Scalar.cmpi .slt v3214 c0_i32_2707
  let c0_i32_2708 : BitVec 32 := 0#32
  let v3217 : BitVec 1 := Scalar.cmpi .slt v3213 c0_i32_2708
  let v3218 : BitVec 1 := Scalar.xori v3216 v3217
  let c0_i32_2706 : BitVec 32 := 0#32
  let v3215 : BitVec 1 := Scalar.cmpi .ne v3214 c0_i32_2706
  let v3219 : BitVec 1 := Scalar.andi v3218 v3215
  let v3220 : BitVec 32 := Scalar.addi v3214 v3213
  let v3221 : BitVec 32 := Scalar.select v3219 v3220 v3214
  let c1_i32_2712 : BitVec 32 := 1#32
  let v3222 : BitVec 32 := Scalar.muli v3221 c1_i32_2712
  let v3223 : BitVec 32 := Scalar.addi c0_i32_2713 v3222
  v3223.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Program.lean ====
/-
  The kernel body restated by its structure: a prologue (the barrier, the first weight fetches, the
  sends of the three foreign blocks), sixty-four steps of one weight tile each, and an epilogue (the
  exchange of the local maxima, the eight quantised tiles, the last waits). Each piece takes the rest
  of the program as its continuation, so that one rule per piece can be proved at a symbolic index.
-/
module

public import proofs.«01_k».proof.Proof.Gen.KernelIdeal.Launch
public import proofs.«01_k».proof.Proof.Gen.KernelIdeal.Points

@[expose] public section

noncomputable section

namespace Cert.KernelIdeal.Own

open Idealize.ShloMosaic Idealize.ShloMosaic.TcCoe
open Idealize.SL Idealize.SL.Sem
open Cert.KernelIdeal.Gen

variable {F : FTy → Type} [FloatOps F]

/-! ## The buffers -/

def xM : Memref sig .tc .hbm S4096x1024 .f32 := Memref.whole main_arg0
def wM : Memref sig .tc .hbm S4096x8192 .f32 := Memref.whole main_arg1
def outM : Memref sig .tc .hbm S1024x8192 .f32 := Memref.whole main_v1
def accM : Memref sig .tc .vmem S1024x8192 .f32 := Memref.whole cc0_scratch0
def xsM : Memref sig .tc .vmem S3x1024x1024 .bf16 := Memref.whole cc0_scratch1
def xgM : Memref sig .tc .vmem S3x1024x1024 .bf16 := Memref.whole cc0_scratch2
def xbM : Memref sig .tc .vmem S1024x1024 .f32 := Memref.whole cc0_scratch3
def wbM : Memref sig .tc .vmem S3x512x1024 .f32 := Memref.whole cc0_scratch4
def myM : Memref sig .tc .vmem S8x128 .f32 := Memref.whole cc0_scratch5
def allM : Memref sig .tc .vmem S4x8x128 .f32 := Memref.whole cc0_scratch6

theorem xsW : xsM.IsWhole := Memref.isWhole_whole _
theorem xgW : xgM.IsWhole := Memref.isWhole_whole _
theorem xbW : xbM.IsWhole := Memref.isWhole_whole _
theorem myW : myM.IsWhole := Memref.isWhole_whole _

/-! ## The rectangles -/

/-- The `t`-th of the eight column tiles of an array of 1024 rows. -/
def tileR (t : Fin 8) : Rect S1024x8192 :=
  Rect.unit (s := S1024x8192) ![0, 1024 * t.val] S1024x1024.size (by revert t; decide)
/-- The `h`-th half, by columns, of a block. -/
def halfR (h : Fin 2) : Rect S1024x1024 :=
  Rect.unit (s := S1024x1024) ![0, 512 * h.val] S1024x512.size (by revert h; decide)
/-- Slot `i` of the three blocks. -/
def slotR (i : Fin 3) : Rect S3x1024x1024 :=
  Rect.unit (s := S3x1024x1024) ![i.val, 0, 0] S1x1024x1024.size (by revert i; decide)
/-- Half `h` of slot `i`. -/
def sliceR (i : Fin 3) (h : Fin 2) : Rect S3x1024x1024 :=
  Rect.unit (s := S3x1024x1024) ![i.val, 0, 512 * h.val] S1x1024x512.size (by revert i h; decide)
/-- Slot `s` of the three weight tiles. -/
def wbR (s : Fin 3) : Rect S3x512x1024 :=
  Rect.unit (s := S3x512x1024) ![s.val, 0, 0] S1x512x1024.size (by revert s; decide)
/-- Row `j` of the gathered maxima. -/
def allR (j : Fin 4) : Rect S4x8x128 :=
  Rect.unit (s := S4x8x128) ![j.val, 0, 0] S1x8x128.size (by revert j; decide)
/-- All of the gathered maxima. -/
def allFullR : Rect S4x8x128 :=
  Rect.unit (s := S4x8x128) ![0, 0, 0] S4x8x128.size inb_S4x8x128_S4x8x128_0_0_0
def myR : Rect S8x128 :=
  Rect.unit (s := S8x128) ![0, 0] S8x128.size inb_S8x128_S8x128_0_0

/-- Where the weight tile of rows `512 c` of block `o` and of columns `1024 t` starts, on device `d0`. -/
def wOff (d0 : Dev nD) (o : Fin 4) (c : Fin 2) (t : Fin 8) : Fin 2 → Nat :=
  (![k0_off1, k0_off2, k0_off5, k0_off6, k0_off7, k0_off8, k0_off9, k0_off10] t) d0
    (BitVec.ofNat 32 o.val) (BitVec.ofNat 32 (512 * c.val))

theorem wOff_eq : ∀ (d0 : Dev nD) (o : Fin 4) (c : Fin 2) (t : Fin 8),
    wOff d0 o c t = ![1024 * ((d0.val + o.val) % 4) + 512 * c.val, 1024 * t.val] := by
  decide +kernel

theorem wOff_inb (d0 : Dev nD) (o : Fin 4) (c : Fin 2) (t : Fin 8) :
    ∀ a, wOff d0 o c t a + S512x1024.size a ≤ S4096x8192.size a := by
  rw [wOff_eq]; revert d0 o c t; decide

def wR (d0 : Dev nD) (o : Fin 4) (c : Fin 2) (t : Fin 8) : Rect S4096x8192 :=
  Rect.unit (s := S4096x8192) (wOff d0 o c t) S512x1024.size (wOff_inb d0 o c t)
/-- The rows of the local columns of `x` which stay. -/
def xOwnR (d0 : Dev nD) : Rect S4096x1024 :=
  Rect.unit (s := S4096x1024) (k0_off3 d0) S1024x1024.size (k0_off3_inb d0)
/-- The rows of the local columns of `x` which go to the device `1 + i` places on. -/
def xOutR (d0 : Dev nD) (i : Fin 3) : Rect S4096x1024 :=
  Rect.unit (s := S4096x1024) (k0_off4 d0 (BitVec.ofNat 32 (1 + i.val))) S1024x1024.size (k0_off4_inb d0 i)

/-! ## The pieces of the buffers transfers move -/

def accT (t : Fin 8) : Memref sig .tc .vmem S1024x1024 .f32 := accM.slice (tileR t) (fun _ => rfl)
def outT (t : Fin 8) : Memref sig .tc .hbm S1024x1024 .f32 := outM.slice (tileR t) (fun _ => rfl)
def xsH (i : Fin 3) (h : Fin 2) : Memref sig .tc .vmem S1024x512 .bf16 :=
  (xsM.slice (sliceR i h) (fun _ => rfl)).squeeze S1024x512 squeezes_S1x1024x512_S1024x512
def xgH (i : Fin 3) (h : Fin 2) : Memref sig .tc .vmem S1024x512 .bf16 :=
  (xgM.slice (sliceR i h) (fun _ => rfl)).squeeze S1024x512 squeezes_S1x1024x512_S1024x512
def wbS (s : Fin 3) : Memref sig .tc .vmem S512x1024 .f32 :=
  (wbM.slice (wbR s) (fun _ => rfl)).squeeze S512x1024 squeezes_S1x512x1024_S512x1024
def allJ (j : Fin 4) : Memref sig .tc .vmem S8x128 .f32 :=
  (allM.slice (allR j) (fun _ => rfl)).squeeze S8x128 squeezes_S1x8x128_S8x128
def wT (d0 : Dev nD) (o : Fin 4) (c : Fin 2) (t : Fin 8) : Memref sig .tc .hbm S512x1024 .f32 :=
  wM.slice (wR d0 o c t) (fun _ => rfl)
def xOwn (d0 : Dev nD) : Memref sig .tc .hbm S1024x1024 .f32 := xM.slice (xOwnR d0) (fun _ => rfl)
def xOut (d0 : Dev nD) (i : Fin 3) : Memref sig .tc .hbm S1024x1024 .f32 := xM.slice (xOutR d0 i) (fun _ => rfl)

/-! ## The semaphores -/

def barS : Sem sig := (SemArray.scalar (sig.barrier 0 rfl) : Sems sig S_).sem
def sendS (i : Fin 3) (h : Fin 2) : DmaSem sig :=
  ((cc0_scratch7.slice (Rect.unit (s := S3x2) ![i.val, h.val] S1x1.size (by revert i h; decide))).squeeze S_ squeezes_S1x1_S_).sem
def recvS (i : Fin 3) (h : Fin 2) : DmaSem sig :=
  ((cc0_scratch8.slice (Rect.unit (s := S3x2) ![i.val, h.val] S1x1.size (by revert i h; decide))).squeeze S_ squeezes_S1x1_S_).sem
def aSendS (j : Fin 4) : DmaSem sig :=
  ((cc0_scratch9.slice (Rect.unit (s := S4) ![j.val] S1.size (by revert j; decide))).squeeze S_ squeezes_S1_S_).sem
def aRecvS (j : Fin 4) : DmaSem sig :=
  ((cc0_scratch10.slice (Rect.unit (s := S4) ![j.val] S1.size (by revert j; decide))).squeeze S_ squeezes_S1_S_).sem
def wS (s : Fin 3) : DmaSem sig :=
  ((cc0_scratch11.slice (Rect.unit (s := S3) ![s.val] S1.size (by revert s; decide))).squeeze S_ squeezes_S1_S_).sem
def outS (s : Fin 2) : DmaSem sig :=
  ((cc0_scratch12.slice (Rect.unit (s := S2) ![s.val] S1.size (by revert s; decide))).squeeze S_ squeezes_S1_S_).sem
def locS : DmaSem sig := cc0_scratch13.sem
def stageS : DmaSem sig := cc0_scratch14.sem

/-! ## The devices sent to -/

def devS (d0 : Dev nD) : Fin 3 → Dev nD :=
  ![⟨k0_dev1 d0, k0_dev1_lt d0⟩, ⟨k0_dev2 d0, k0_dev2_lt d0⟩, ⟨k0_dev3 d0, k0_dev3_lt d0⟩]
def devX (d0 : Dev nD) : Fin 3 → Fin 2 → Dev nD :=
  ![![⟨k0_dev4 d0, k0_dev4_lt d0⟩, ⟨k0_dev5 d0, k0_dev5_lt d0⟩],
    ![⟨k0_dev8 d0, k0_dev8_lt d0⟩, ⟨k0_dev9 d0, k0_dev9_lt d0⟩],
    ![⟨k0_dev6 d0, k0_dev6_lt d0⟩, ⟨k0_dev7 d0, k0_dev7_lt d0⟩]]
def devA (d0 : Dev nD) : Fin 3 → Dev nD :=
  ![⟨k0_dev10 d0, k0_dev10_lt d0⟩, ⟨k0_dev12 d0, k0_dev12_lt d0⟩, ⟨k0_dev11 d0, k0_dev11_lt d0⟩]

/-! ## The values stored -/

variable (F) in
abbrev Tile := Vec F S1024x1024 .f32
variable (F) in
abbrev Half := Vec F S1024x512 .f32
variable (F) in
abbrev WTile := Vec F S1x512x1024 .f32

/-- The product of one half block with one weight tile. -/
def mm (l : Half F) (w : WTile F) : Tile F :=
  matmul dot_S1024x512_S512x1024_S1024x1024_1_0_0_1_n_n none l
    (shapeCast S512x1024 w shapeCasts_S1x512x1024_S512x1024) (constant S1024x1024 .f32 0x00000000#32)
def keep (v : Tile F) : Tile F := shapeCast S1024x1024 v shapeCasts_S1024x1024_S1024x1024
def addMm (l : Half F) (w : WTile F) (a : Tile F) : Tile F := addf a (mm l w)
/-- A block narrowed to sixteen bits, as the slot that holds it. -/
def narrow (v : Tile F) : Vec F S1x1024x1024 .bf16 :=
  shapeCast S1x1024x1024 (truncf .bf16 v bitsLt_bf16_f32) shapeCasts_S1024x1024_S1x1024x1024
/-- A received half slot widened again. -/
def widen (v : Vec F S1x1024x512 .bf16) : Half F :=
  shapeCast S1024x512 (extf .f32 (shapeCast S1024x512 v shapeCasts_S1x1024x512_S1024x512) bitsLt_bf16_f32) shapeCasts_S1024x512_S1024x512
/-- The running maximum of absolute values after one more tile. -/
def maxAbs (p : F .f32) (v : Tile F) : F .f32 :=
  Scalar.maximumf p (extractAt ![0, 0, 0] (shapeCast S1x1x1 (multiReduction .maximumf [1, 2] S1
    (shapeCast S1x1024x1024 (absf v) shapeCasts_S1024x1024_S1x1024x1024) 0xFF800000#32 reduces_S1x1024x1024_S1 (.inl rfl) rfl)
    shapeCasts_S1_S1x1x1) inpos_S1x1x1_p0_0_0)
def splat (a : F .f32) : Vec F S8x128 .f32 := shapeCast S8x128 (broadcast S8x128 a) shapeCasts_S8x128_S8x128
def asRow (v : Vec F S8x128 .f32) : Vec F S1x8x128 .f32 := shapeCast S1x8x128 v shapeCasts_S8x128_S1x8x128
def scaleOf (v : Vec F S4x8x128 .f32) : F .f32 :=
  Scalar.divf (extractAt ![0, 0, 0, 0] (shapeCast S1x1x1x1 (multiReduction .maximumf [1, 2, 3] S1
    (shapeCast S1x4x8x128 v shapeCasts_S4x8x128_S1x4x8x128) 0xFF800000#32 reduces_S1x4x8x128_S1 (.inl rfl) rfl)
    shapeCasts_S1_S1x1x1x1) inpos_S1x1x1x1_p0_0_0_0) (Scalar.ofBits .f32 0x42FE0000#32)
def quant (s : F .f32) (y : Tile F) : Tile F :=
  keep (mulf (minimumf (broadcast S1024x1024 (Scalar.ofBits .f32 0x42FE0000#32))
    (maximumf (broadcast S1024x1024 (Scalar.ofBits .f32 0xC2FE0000#32))
      (roundeven (mulf y (broadcast S1024x1024 (Scalar.divf (Scalar.ofBits .f32 0x3F800000#32) s))))))
    (broadcast S1024x1024 s))

/-! ## The steps -/

variable (F) in
/-- A program of the kernel's core. -/
abbrev Pg := Prog (TpuEff nD τ sig (Elt F) Λ₀ .tc) PUnit

/-- Blocks are taken in this order: the own one, then the three received ones as they arrive. -/
def ordO : Fin 4 → Fin 4 := ![0, 3, 1, 2]
def oOf (f : Nat) : Fin 4 := ordO ⟨f / 16 % 4, Nat.mod_lt _ (by decide)⟩
def cOf (f : Nat) : Fin 2 := ⟨f / 8 % 2, Nat.mod_lt _ (by decide)⟩
def tOf (f : Nat) : Fin 8 := ⟨f % 8, Nat.mod_lt _ (by decide)⟩
def sOf (f : Nat) : Fin 3 := ⟨f % 3, Nat.mod_lt _ (by decide)⟩
/-- The slot a block `o` received lies in. -/
def slotOf (o : Fin 4) : Fin 3 := ⟨(o.val + 3) % 4 % 3, Nat.mod_lt _ (by decide)⟩

/-- Start fetching the weight tile of step `f`. -/
def startW (d0 : Dev nD) (f : Nat) (k : Pg F) : Pg F :=
  .op (.enqueueDma (wT d0 (oOf f) (cOf f) (tOf f)) (.here (wbS (sOf f))) (.dma (wS (sOf f)))
    (View.wordExact_bits rfl) ((View.wordExact_bits rfl).reshape _ _) ⟨Or.inl rfl, trivial⟩) fun _ => k

/-- Start the fetch two steps ahead, if there is such a step. -/
def aheadW (d0 : Dev nD) (f : Nat) (k : Pg F) : Pg F :=
  if f + 2 < 64 then startW d0 (f + 2) k else k

def waitW (d0 : Dev nD) (f : Nat) (k : Pg F) : Pg F :=
  .op (.waitDma2 (wS (sOf f)) (wT d0 (oOf f) (cOf f) (tOf f)) (wbS (sOf f))
    (View.wordExact_bits rfl) ((View.wordExact_bits rfl).reshape _ _)) fun _ => k

def loadAcc (t : Fin 8) (k : Tile F → Pg F) : Pg F :=
  .op (.load accM (tileR t).toLoadRect (View.loadsAt_vmem h_S1024x1024)) k
def storeAcc (t : Fin 8) (v : Tile F) (k : Pg F) : Pg F :=
  .op (.store accM (tileR t) v Finset.univ (View.stores_vmem_bits_univ h_S1024x1024 rfl) (.inl rfl)) fun _ => k
def loadXb (h : Fin 2) (k : Half F → Pg F) : Pg F :=
  .op (.load xbM (halfR h).toLoadRect (View.loadsAt_vmem h_S1024x512)) k
def storeXb (h : Fin 2) (v : Half F) (k : Pg F) : Pg F :=
  .op (.store xbM (halfR h) v Finset.univ (View.stores_vmem_bits_univ h_S1024x512 rfl) (.inl rfl)) fun _ => k
def loadWb (s : Fin 3) (k : WTile F → Pg F) : Pg F :=
  .op (.load wbM (wbR s).toLoadRect (View.loadsAt_vmem h_S1x512x1024)) k

theorem xsWords (i : Fin 3) (h : Fin 2) : (xsH i h).view.WordExact :=
  match i, h with
  | 0, 0 => (xsW.wordExact_slice rfl _ wordsbf16_S3x1024x1024_S1x1024x512_0_0_0).reshape _ _
  | 0, 1 => (xsW.wordExact_slice rfl _ wordsbf16_S3x1024x1024_S1x1024x512_0_0_512).reshape _ _
  | 1, 0 => (xsW.wordExact_slice rfl _ wordsbf16_S3x1024x1024_S1x1024x512_1_0_0).reshape _ _
  | 1, 1 => (xsW.wordExact_slice rfl _ wordsbf16_S3x1024x1024_S1x1024x512_1_0_512).reshape _ _
  | 2, 0 => (xsW.wordExact_slice rfl _ wordsbf16_S3x1024x1024_S1x1024x512_2_0_0).reshape _ _
  | 2, 1 => (xsW.wordExact_slice rfl _ wordsbf16_S3x1024x1024_S1x1024x512_2_0_512).reshape _ _
theorem xgWords (i : Fin 3) (h : Fin 2) : (xgH i h).view.WordExact :=
  match i, h with
  | 0, 0 => (xgW.wordExact_slice rfl _ wordsbf16_S3x1024x1024_S1x1024x512_0_0_0).reshape _ _
  | 0, 1 => (xgW.wordExact_slice rfl _ wordsbf16_S3x1024x1024_S1x1024x512_0_0_512).reshape _ _
  | 1, 0 => (xgW.wordExact_slice rfl _ wordsbf16_S3x1024x1024_S1x1024x512_1_0_0).reshape _ _
  | 1, 1 => (xgW.wordExact_slice rfl _ wordsbf16_S3x1024x1024_S1x1024x512_1_0_512).reshape _ _
  | 2, 0 => (xgW.wordExact_slice rfl _ wordsbf16_S3x1024x1024_S1x1024x512_2_0_0).reshape _ _
  | 2, 1 => (xgW.wordExact_slice rfl _ wordsbf16_S3x1024x1024_S1x1024x512_2_0_512).reshape _ _
theorem myWords : myM.view.WordExact := myW.wordExact
theorem allWords (j : Fin 4) : (allJ j).view.WordExact := (View.wordExact_bits rfl).reshape _ _

/-- Wait for half `h` of block `o` and widen it into the working block; nothing for the own block. -/
def takeBlock (o : Fin 4) (h : Fin 2) (k : Pg F) : Pg F :=
  .op (.waitDma2 (recvS (slotOf o) h) (xsH 0 h) (xgH (slotOf o) h) (xsWords 0 h) (xgWords (slotOf o) h)) fun _ =>
  .op (.load xgM (sliceR (slotOf o) h).toLoadRect (View.loadsAt_vmem h_S1x1024x512)) fun v =>
  loadXb h fun _ => storeXb h (widen v) k

def arrive (f : Nat) (k : Pg F) : Pg F :=
  if f % 8 = 0 ∧ 16 ≤ f then takeBlock (oOf f) (cOf f) k else k

/-- The product of a step put into its tile: the first half block sets the tile, later ones add to it. -/
def product (f : Nat) (k : Tile F → Pg F) : Pg F :=
  loadXb (cOf f) fun l => loadWb (sOf f) fun w =>
  if f < 8 then loadAcc (tOf f) fun _ => storeAcc (tOf f) (keep (mm l w)) (k (mm l w))
  else loadAcc (tOf f) fun a => loadAcc (tOf f) fun _ => storeAcc (tOf f) (keep (addMm l w a)) (k (addMm l w a))

def step (d0 : Dev nD) (f : Nat) (k : Tile F → Pg F) : Pg F :=
  arrive f (aheadW d0 f (waitW d0 f (product f k)))

/-- The steps from `f`, `n` of them; the last eight also keep the running maximum. -/
def steps (d0 : Dev nD) : (n f : Nat) → F .f32 → (F .f32 → Pg F) → Pg F
  | 0, _, m, k => k m
  | n + 1, f, m, k => step d0 f fun v => steps d0 n (f + 1) (if f < 56 then m else maxAbs m v) k

/-! ## The prologue -/

def signal (d0 : Dev nD) (i : Fin 3) (k : Pg F) : Pg F :=
  .op (.semSignal (Dev.tc (devS d0 i)) barS 1) fun _ => k

def sendX (d0 : Dev nD) (i : Fin 3) (h : Fin 2) (k : Pg F) : Pg F :=
  .op (.enqueueDma (xsH i h) (.remote (Dev.tc (devX d0 i h)) (xgH (Fin.rev i) h) (.dma (sendS i h))) (.dma (recvS (Fin.rev i) h))
    (xsWords i h) (xgWords (Fin.rev i) h) ⟨⟨rfl, Or.inl rfl⟩, trivial⟩) fun _ => k

theorem xsStore (i : Fin 3) : (xsM.access (slotR i)).StoreExact Finset.univ :=
  match i with
  | 0 => xsW.storeExact_slice rfl _ packedbf16_S3x1024x1024_S1x1024x1024_0_0_0
  | 1 => xsW.storeExact_slice rfl _ packedbf16_S3x1024x1024_S1x1024x1024_1_0_0
  | 2 => xsW.storeExact_slice rfl _ packedbf16_S3x1024x1024_S1x1024x1024_2_0_0

/-- Fetch the block for the device `1 + i` places on, narrow it and send it there by halves. -/
def sendBlock (d0 : Dev nD) (i : Fin 3) (k : Pg F) : Pg F :=
  .op (.enqueueDma (xOut d0 i) (.here (accT 7)) (.dma stageS)
    (View.wordExact_bits rfl) (View.wordExact_bits rfl) ⟨Or.inl rfl, trivial⟩) fun _ =>
  .op (.waitDma2 stageS (xOut d0 i) (accT 7) (View.wordExact_bits rfl) (View.wordExact_bits rfl)) fun _ =>
  loadAcc 7 fun v =>
  .op (.load xsM (slotR i).toLoadRect (View.loadsAt_vmem h_S1x1024x1024)) fun _ =>
  .op (.store xsM (slotR i) (narrow v) Finset.univ
    (View.stores_vmem h_S1x1024x1024 (xsStore i) (fun _ => rfl)) (.inl rfl)) fun _ =>
  sendX d0 i 0 (sendX d0 i 1 k)

def prologue (k : Dev nD → Pg F) : Pg F :=
  .op .deviceId fun d0 =>
  signal d0 0 <| signal d0 1 <| signal d0 2 <|
  .op (.semWait barS 3) fun _ =>
  startW d0 0 <| startW d0 1 <|
  .op (.enqueueDma (xOwn d0) (.here xbM) (.dma locS)
    (View.wordExact_bits rfl) xbW.wordExact ⟨Or.inl rfl, trivial⟩) fun _ =>
  sendBlock d0 0 <| sendBlock d0 2 <| sendBlock d0 1 <|
  .op (.waitDma2 locS (xOwn d0) xbM (View.wordExact_bits rfl) xbW.wordExact) fun _ =>
  k d0

/-! ## The epilogue -/

def sendA (d0 : Dev nD) (i : Fin 3) (k : Pg F) : Pg F :=
  .op (.enqueueDma myM (.remote (Dev.tc (devA d0 i)) (allJ (Fin.rev i).succ) (.dma (aSendS i.succ))) (.dma (aRecvS (Fin.rev i).succ))
    myWords (allWords _) ⟨⟨rfl, Or.inl rfl⟩, trivial⟩) fun _ => k
def waitA (i : Fin 3) (k : Pg F) : Pg F :=
  .op (.waitDma2 (aRecvS i.succ) myM (allJ i.succ) myWords (allWords _)) fun _ => k

/-- Publish the local maximum and gather everybody's. -/
def gather (d0 : Dev nD) (m : F .f32) (k : Vec F S4x8x128 .f32 → Pg F) : Pg F :=
  .op (.load myM myR.toLoadRect (View.loadsAt_vmem h_S8x128)) fun _ =>
  .op (.store myM myR (splat m) Finset.univ (View.stores_vmem_bits_univ h_S8x128 rfl) (.inl rfl)) fun _ =>
  .op (.load myM myR.toLoadRect (View.loadsAt_vmem h_S8x128)) fun v =>
  .op (.load allM (allR 0).toLoadRect (View.loadsAt_vmem h_S1x8x128)) fun _ =>
  .op (.store allM (allR 0) (asRow v) Finset.univ (View.stores_vmem_bits_univ h_S1x8x128 rfl) (.inl rfl)) fun _ =>
  sendA d0 0 <| sendA d0 2 <| sendA d0 1 <|
  waitA 0 <| waitA 1 <| waitA 2 <|
  .op (.load allM allFullR.toLoadRect (View.loadsAt_vmem h_S4x8x128)) k

def waitOut (t : Fin 8) (k : Pg F) : Pg F :=
  .op (.waitDma2 (outS ⟨t.val % 2, Nat.mod_lt _ (by decide)⟩) (accT t) (outT t)
    (View.wordExact_bits rfl) (View.wordExact_bits rfl)) fun _ => k
def startOut (t : Fin 8) (k : Pg F) : Pg F :=
  .op (.enqueueDma (accT t) (.here (outT t)) (.dma (outS ⟨t.val % 2, Nat.mod_lt _ (by decide)⟩))
    (View.wordExact_bits rfl) (View.wordExact_bits rfl) ⟨Or.inl rfl, trivial⟩) fun _ => k

/-- Quantise one tile and start writing it out. -/
def quantTile (s : F .f32) (t : Fin 8) (k : Pg F) : Pg F :=
  loadAcc t fun y => loadAcc t fun _ => storeAcc t (quant s y) <|
  if h : 2 ≤ t.val then waitOut ⟨t.val - 2, by omega⟩ (startOut t k) else startOut t k

def quantTiles (s : F .f32) (k : Pg F) : Pg F :=
  quantTile s 0 <| quantTile s 1 <| quantTile s 2 <| quantTile s 3 <|
  quantTile s 4 <| quantTile s 5 <| quantTile s 6 <| quantTile s 7 <| waitOut 6 <| waitOut 7 k

def drainX (i : Fin 3) (h : Fin 2) (k : Pg F) : Pg F :=
  .op (.waitDma2 (sendS i h) (xgH (Fin.rev i) h) (xsH i h) (xgWords _ h) (xsWords i h)) fun _ => k
def drainA (i : Fin 3) (k : Pg F) : Pg F :=
  .op (.waitDma2 (aSendS i.succ) (allJ (Fin.rev i).succ) myM (allWords _) myWords) fun _ => k

def drain : Pg F :=
  drainX 0 0 <| drainX 0 1 <| drainX 2 0 <| drainX 2 1 <| drainX 1 0 <| drainX 1 1 <|
  drainA 0 <| drainA 2 <| drainA 1 <| .ret ⟨⟩

def body : Pg F :=
  prologue fun d0 => steps d0 64 0 (Scalar.ofBits .f32 0x00000000#32) fun m =>
  gather d0 m fun v => quantTiles (scaleOf v) drain

set_option maxRecDepth 1000000 in
theorem body_eq (t : Fin cfg0.N) : bodyAt0 (F := F) t = body := by
  exact rfl

end Cert.KernelIdeal.Own

end
-- ==== Proof.Own.lean ====
/-
  The rules the proof steps with, over pieces of buffers owned at known contents: loading and storing a
  piece, starting and awaiting a transfer within a device, seeing a piece at another shape.
-/
module

public import proofs.«01_k».proof.Proof.Program
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's, the exchange's, the counters of local transfers -/

abbrev UX : Type := URounds (GSem nD τ sig) (Fin 3)
abbrev UU : Type := UR sig nD τ × (UX × Counters)

local notation "𝕄" => MT nD τ sig Unit (Elt F) ℕ UU ℕ

abbrev EP : Emb (UR sig nD τ) (MT nD τ sig Unit (Elt F) ℕ UU ℕ) := embL
def ER : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
instance ER_landsIn : (ER : Emb UX 𝕄).LandsIn (upEmb : UEmb _ 𝕄) := by unfold ER; infer_instance
abbrev EC : UEmb Counters (MT nD τ sig Unit (Elt F) ℕ UU ℕ) := countersEmb

abbrev 𝒱₀ : Variants := Variants.none

/-- The device's core runs `p` to `Q`. -/
abbrev WP (c : Dev nD) (p : Pg F) (Q : PUnit.{1} → sProp 𝕄) : sProp 𝕄 :=
  wp frame (wpE (defs₀ (F := F)) 𝒱₀ (c : Thread nD τ) none) Set.univ p Q

/-- Device `c` owns a piece, at a share, and it holds `X`. -/
abbrev part (c : Dev nD) {sp : Space} {s : Shape} {e : EltTy} (m : Memref sig .tc sp s e) (q : PosShare TreeShare)
    (X : s.Idx → Elt F e) : sProp 𝕄 := owns (c : Thread nD τ) m q X
/-- Device `c` owns a piece outright, and it holds `X`. -/
abbrev hold (c : Dev nD) {sp : Space} {s : Shape} {e : EltTy} (m : Memref sig .tc sp s e)
    (X : s.Idx → Elt F e) : sProp 𝕄 := owns (c : Thread nD τ) m fullShare X
/-- Device `c` owes the signals `O`, whatever it has waited for. -/
def owing (c : Dev nD) (O : CellTallies nD τ sig Unit) : sProp 𝕄 := iprop(∃ W, owes (c : Thread nD τ) O W)

variable {c : Dev nD} {Q : PUnit.{1} → sProp (MT nD τ sig Unit (Elt F) ℕ UU ℕ)} {sp sp' : Space} {s s' : Shape} {e : EltTy}

/-- A piece seen at another shape with the same elements. -/
theorem part_squeeze (m : Memref sig .tc sp s e) (h : s.Squeezes s') (q : PosShare TreeShare) (X : s'.Idx → Elt F e) :
    part (F := F) c (m.squeeze s' h) q X = part c m q (fun j => X (Shape.reshapeEquiv h.numel_eq.symm j)) := by
  unfold part owns
  have hset : (m.squeeze s' h).view.set = m.view.set := by
    show (m.view.reshape s' h.numel_eq).set = _
    exact View.set_reshape _ _
  have hread (f : m.view.ty.Contents (Elt F)) :
      (m.squeeze s' h).view.read (Elt F) f = X ↔ m.view.read (Elt F) f = fun j => X (Shape.reshapeEquiv h.numel_eq.symm j) := by
    have e1 : (m.squeeze s' h).view.read (Elt F) f = fun j => m.view.read (Elt F) f (Shape.reshapeEquiv h.numel_eq j) := rfl
    rw [e1]
    constructor
    · rintro rfl; funext j; simp [Shape.reshapeEquiv_reshapeEquiv]
    · intro hh; rw [hh]; funext j; simp [Shape.reshapeEquiv_reshapeEquiv]
  have h₁ : (fun f : m.view.ty.Contents (Elt F) => (iprop(⌜(m.squeeze s' h).view.read (Elt F) f = X⌝ ∗ ((m.squeeze s' h).view.loc (c : Thread nD τ) ↦[(m.squeeze s' h).view.set]{q} f)) : sProp 𝕄))
      = fun f => iprop(⌜m.view.read (Elt F) f = fun j => X (Shape.reshapeEquiv h.numel_eq.symm j)⌝ ∗ (m.view.loc (c : Thread nD τ) ↦[m.view.set]{q} f)) := by
    funext f
    have : (iprop((m.squeeze s' h).view.loc (c : Thread nD τ) ↦[(m.squeeze s' h).view.set]{q} f) : sProp 𝕄)
        = iprop(m.view.loc (c : Thread nD τ) ↦[m.view.set]{q} f) := by
      rw [hset]
    rw [this, propext (hread f)]
  exact congrArg (BIBase.exists (PROP := sProp 𝕄)) h₁

/-- Loading a piece gives what it holds. -/
theorem wp_loadP {cs : CoreSpace} {m : Memref sig .tc cs s e} {r : Rect s} {hr : ∀ a, r.stride a = 1} {hl : m.view.LoadsAt r}
    {k : (r.shape.Idx → Elt F e) → Pg F} {q : PosShare TreeShare} {X : r.shape.Idx → Elt F e} :
    part c (m.slice r hr) q X ⊢ iprop((part c (m.slice r hr) q X -∗ WP c (k X) Q) -∗ WP c (.op (.load m r.toLoadRect hl) k) Q) := by
  unfold part owns
  iintro ⟨%f, %hf, H⟩ Hk
  iapply (wp_load_rect 𝒱₀ (c : Thread nD τ) none Set.univ (m := m) (r := r) (S := (m.access r).set) (f := f) (q := q) (Finset.Subset.refl _)) $$ [H]
  · iexact H
  iintro H
  have hf' : (m.access r).read (Elt F) f = X := hf
  rw [hf']
  iapply Hk
  iexists f
  isplitr; · ipureintro; exact hf
  iexact H

/-- Storing into a piece. -/
theorem wp_storeP {cs : CoreSpace} {m : Memref sig .tc cs s e} {r : Rect s} {hr : ∀ a, r.stride a = 1} {w : r.shape.Idx → Elt F e}
    {hx : (m.access r).Stores Finset.univ} {hm : (Finset.univ : Finset r.shape.Idx) = Finset.univ ∨ ∀ a, r.stride a = 1}
    {k : PUnit → Pg F} {X : r.shape.Idx → Elt F e} :
    hold c (m.slice r hr) X ⊢ iprop((hold c (m.slice r hr) w -∗ WP c (k ⟨⟩) Q) -∗ WP c (.op (.store m r w Finset.univ hx hm) k) Q) := by
  unfold hold owns
  iintro ⟨%f, %hf, H⟩ Hk
  iapply (wp_store 𝒱₀ (c : Thread nD τ) none Set.univ (m := m) (r := r) (w := w) (S := (m.access r).set) (f := f) (Finset.Subset.refl _)) $$ [H]
  · iexact H
  iintro H
  iapply Hk
  iexists ((m.access r).write (Elt F) f w Finset.univ)
  isplitr
  · ipureintro
    exact View.read_write_univ _ _
  iexact H

/-- Starting a transfer within the device: the two pieces are lent to it until it is awaited. -/
theorem wp_startP {src : Memref sig .tc sp s e} {dst : Memref sig .tc sp' s e} {sem : DmaSem sig}
    {hsrc : src.view.WordExact} {hdst : dst.view.WordExact} {hsem : DmaTarget.Typed (nD := nD) (τ := τ) (p := (c : Thread nD τ).2) sp (.dma sem) (.here dst)}
    {k : PUnit → Pg F} {q : PosShare TreeShare} {X Y : s.Idx → Elt F e} (hN : 0 < dst.view.dmaCredit) :
    iprop(part c src q X ∗ hold c dst Y ∗ semVal ((c : Thread nD τ), SemLoc.dma sem) 0)
      ⊢ iprop((Transfers.Flight EC (c : Thread nD τ) (.dma sem) () dst.view.dmaCredit iprop(hold c dst X ∗ part c src q X) -∗ WP c (k ⟨⟩) Q)
        -∗ WP c (.op (.enqueueDma src (.here dst) (.dma sem) hsrc hdst hsem) k) Q) := by
  unfold part hold owns
  iintro ⟨⟨%fs, %hs, Hs⟩, ⟨%fd, %hd, Hd⟩, Hv⟩ Hk
  iapply (Transfers.wp_dmaLocal EC 𝒱₀ (c : Thread nD τ) none (src := src) (dst := dst) (sm := .dma sem) (via := .same) (q := q) (fs := fs) (fd := fd)
    (Sd := dst.view.set) () dst.view.dmaCredit rfl hN (Finset.Subset.refl _)) $$ [Hs Hd Hv]
  · isplitl [Hs]; · iexact Hs
    isplitl [Hd]; · iexact Hd
    iexact Hv
  iintro HF
  iapply Hk
  refine (Transfers.Flight_mono EC (c : Thread nD τ) ?_)
  iintro ⟨Hd, Hs⟩
  isplitl [Hd]
  · iexists _
    isplitr
    rotate_left
    · iexact Hd
    · ipureintro
      rw [View.read_write_univ]; exact hs
  · iexists fs
    isplitr; · ipureintro; exact hs
    iexact Hs

/-- Awaiting it. -/
theorem wp_awaitP {s' : Shape} {e' : EltTy} {sem : DmaSem sig} {srcw : Memref sig .tc sp' s' e'} {dstw : Memref sig .tc sp s e}
    {hsrc : srcw.view.WordExact} {hdst : dstw.view.WordExact} {k : PUnit → Pg F} {D : sProp 𝕄} {O : CellTallies nD τ sig Unit} {N : ℕ}
    (hN : dstw.view.dmaCredit = N) :
    iprop(Transfers.Flight EC (c : Thread nD τ) (.dma sem) () N D ∗ owing c O ∗ MayWait (c : Thread nD τ) (.dma sem) () O)
      ⊢ iprop((iprop(D ∗ semVal ((c : Thread nD τ), SemLoc.dma sem) 0 ∗ owing c O) -∗ WP c (k ⟨⟩) Q)
        -∗ WP c (.op (.waitDma2 sem srcw dstw hsrc hdst) k) Q) := by
  unfold owing
  iintro ⟨HF, ⟨%W, HO⟩, Hmw⟩ Hk
  iapply (Transfers.wp_waitLocalO EC 𝒱₀ (c : Thread nD τ) none (sem := sem) () hN (D := D) (O := O) (W := W)) $$ [HF HO Hmw]
  · isplitl [HF]; · iexact HF
    isplitl [HO]; · iexact HO
    iexact Hmw
  iintro ⟨HD, Hv, HO⟩
  iapply Hk
  isplitl [HD]; · iexact HD
  isplitl [Hv]; · iexact Hv
  iexists _; iexact HO

/-- A slice lent out of a piece, and taken back as it was. -/
theorem part_lend (m : Memref sig .tc sp s e) (r : Rect s) (hr : ∀ a, r.stride a = 1) (q : PosShare TreeShare) (X : s.Idx → Elt F e) :
    part (F := F) c m q X ⊢ iprop(part c (m.slice r hr) q (fun j => X (r.emb j))
      ∗ (part c (m.slice r hr) q (fun j => X (r.emb j)) -∗ part c m q X)) := by
  iintro H
  ihave H := (owns_slice_split (c : Thread nD τ) m q r hr X) $$ H
  icases H with ⟨Hs, %f, %hf, Hr⟩
  isplitl [Hs]; · iexact Hs
  iintro Hs
  have e : r.overlay (m.view.read (Elt F) f) (fun j => X (r.emb j)) = X := by
    funext j
    by_cases hj : j ∈ r.set
    · obtain ⟨i, rfl⟩ := r.exists_idx_of_mem hj
      exact Rect.overlay_emb _ _ _ _
    · rw [Rect.overlay_of_not_mem _ _ _ hj, hf]
  have := owns_slice_join (c : Thread nD τ) m q r hr (fun j => X (r.emb j)) f (Ix := Unit) (Name := ℕ) (U := UU) (Lvl := ℕ) (Val := Elt F)
  rw [e] at this
  iapply this
  isplitl [Hs]; · iexact Hs
  iexact Hr

/-- One member of a family taken out and put back changed. -/
theorem bigSep_upd {I X : Type} [Fintype I] [DecidableEq I] (Φ : I → X → sProp 𝕄) (A : I → X) (i : I) :
    bigSep Finset.univ (fun t => Φ t (A t))
      ⊢ iprop(Φ i (A i) ∗ (∀ v, Φ i v -∗ bigSep Finset.univ (fun t => Φ t (Function.update A i v t)))) := by
  rw [bigSep_univ_at _ i]
  iintro ⟨Hi, Hr⟩
  isplitl [Hi]; · iexact Hi
  iintro %v Hi
  have e : bigSep (Finset.univ.erase i) (fun t => Φ t (Function.update A i v t)) = bigSep (Finset.univ.erase i) (fun t => Φ t (A t)) :=
    bigSep_congr fun t ht => by rw [Function.update_of_ne (Finset.ne_of_mem_erase ht)]
  rw [bigSep_univ_at (fun t => Φ t (Function.update A i v t)) i, e, Function.update_self]
  isplitl [Hi]; · iexact Hi
  iexact Hr

end Cert.KernelIdeal.Own

end
-- ==== Proof.Sched.lean ====
/-
  The values the kernel computes, as functions of the launch memory, and the schedule of the exchange:
  which semaphores the devices talk through, what each raise of one hands over, what every device owes at
  the launch and in what order of levels the waits come.
-/
module

public import proofs.«01_k».proof.Proof.Own

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The devices -/

/-- The device `1 + i` places on. -/
def pl (c : Dev nD) (i : Fin 3) : Dev nD := ⟨(c.val + (1 + i.val)) % 4, Nat.mod_lt _ (by decide)⟩

theorem devS_eq : ∀ (c : Dev nD) (i : Fin 3), devS c i = pl c i := by decide +kernel
theorem devX_eq : ∀ (c : Dev nD) (i : Fin 3) (h : Fin 2), devX c i h = pl c i := by decide +kernel
theorem devA_eq : ∀ (c : Dev nD) (i : Fin 3), devA c i = pl c i := by decide +kernel
theorem pl_rev : ∀ (c : Dev nD) (i : Fin 3), pl (pl c i) (Fin.rev i) = c := by decide
theorem rev_pl : ∀ (c : Dev nD) (i : Fin 3), pl (pl c (Fin.rev i)) i = c := by decide
theorem pl_ne : ∀ (c : Dev nD) (i : Fin 3), pl c i ≠ c := by decide

/-- Going `1 + i` places on, and back. -/
def ring (i : Fin 3) : Dev nD ≃ Dev nD := ⟨fun c => pl c i, fun c => pl c (Fin.rev i), fun c => pl_rev c i, fun c => rev_pl c i⟩

/-! ## The values -/

/-- Half `h` of one slot. -/
def hR (h : Fin 2) : Rect S1x1024x1024 :=
  Rect.unit (s := S1x1024x1024) ![0, 0, 512 * h.val] S1x1024x512.size (by revert h; decide)

def xv (c : Dev nD) : S4096x1024.Idx → F .f32 := m ((c : Thread nD τ).loc main_arg0)
def wv (c : Dev nD) : S4096x8192.Idx → F .f32 := m ((c : Thread nD τ).loc main_arg1)
/-- The block of `x` which stays with device `c`, -/
def xOwnV (c : Dev nD) : Tile F := fun j => xv m c ((xOwnR c).emb j)
/-- the one it sends `1 + i` places on, -/
def xOutV (c : Dev nD) (i : Fin 3) : Tile F := fun j => xv m c ((xOutR c i).emb j)
/-- and the halves it travels in. -/
def sentV (c : Dev nD) (i : Fin 3) (h : Fin 2) : Vec F S1024x512 .bf16 :=
  fun j => narrow (xOutV m c i) ((hR h).emb (Shape.reshapeEquiv squeezes_S1x1024x512_S1024x512.numel_eq j))
/-- A received half as its slot holds it. -/
def slotV (v : Vec F S1024x512 .bf16) : Vec F S1x1024x512 .bf16 :=
  fun j => v (Shape.reshapeEquiv squeezes_S1x1024x512_S1024x512.numel_eq.symm j)
/-- A fetched weight tile, and as its slot holds it. -/
def wVal (c : Dev nD) (o : Fin 4) (cc : Fin 2) (t : Fin 8) : Vec F S512x1024 .f32 := fun j => wv m c ((wR c o cc t).emb j)
def wSlotV (v : Vec F S512x1024 .f32) : WTile F :=
  fun j => v (Shape.reshapeEquiv squeezes_S1x512x1024_S512x1024.numel_eq.symm j)

/-- Half `h` of block `o` of the rows device `c` computes, as it multiplies. -/
def halfV (c : Dev nD) (o : Fin 4) (h : Fin 2) : Half F :=
  if o = 0 then fun j => xOwnV m c ((halfR h).emb j)
  else widen (slotV (sentV m (pl c (slotOf o)) (Fin.rev (slotOf o)) h))

/-- The `b`-th half block in the order of the products. -/
def oB (b : ℕ) : Fin 4 := ordO ⟨b / 2 % 4, Nat.mod_lt _ (by decide)⟩
def cB (b : ℕ) : Fin 2 := ⟨b % 2, Nat.mod_lt _ (by decide)⟩
theorem oOf_eq (f : ℕ) : oOf f = oB (f / 8) := by unfold oOf oB; simp only [Nat.div_div_eq_div_mul]
theorem cOf_eq (f : ℕ) : cOf f = cB (f / 8) := rfl

/-- Tile `t` of the result after the half blocks `0 … n`. -/
def tileV (c : Dev nD) (t : Fin 8) : ℕ → Tile F
  | 0 => mm (halfV m c (oB 0) (cB 0)) (wSlotV (wVal m c (oB 0) (cB 0) t))
  | n + 1 => addMm (halfV m c (oB (n + 1)) (cB (n + 1))) (wSlotV (wVal m c (oB (n + 1)) (cB (n + 1)) t)) (tileV c t n)
/-- The finished tile. -/
def fullV (c : Dev nD) (t : Fin 8) : Tile F := tileV m c t 7

/-- The running maximum after `n` finished tiles, -/
def maxV (c : Dev nD) : ℕ → F .f32
  | 0 => Scalar.ofBits .f32 0x00000000#32
  | n + 1 => maxAbs (maxV c n) (fullV m c ⟨n % 8, Nat.mod_lt _ (by decide)⟩)
/-- after all eight, -/
def amaxV (c : Dev nD) : F .f32 := maxV m c 8
/-- and the maxima of all devices, the own one first. -/
def allV (c : Dev nD) : Vec F S4x8x128 .f32 :=
  fun j => amaxV m ⟨(c.val + (j 0).val) % 4, Nat.mod_lt _ (by decide)⟩
def scaleV (c : Dev nD) : F .f32 := scaleOf (allV m c)
/-- A tile of the result. -/
def outV (c : Dev nD) (t : Fin 8) : Tile F := quant (scaleV m c) (fullV m c t)

theorem keep_eq (v : Tile F) : keep v = v := by
  funext j; unfold keep shapeCast; rw [Shape.reshapeEquiv_self]
theorem splat_eq (a : F .f32) : splat a = fun _ => a := rfl

/-! ## The semaphores of the exchange -/

/-- The kinds of semaphore the devices talk through. -/
inductive CK where
  | bar
  | snd (i : Fin 3) (h : Fin 2)
  | rcv (i : Fin 3) (h : Fin 2)
  | asnd (i : Fin 3)
  | arcv (i : Fin 3)
deriving DecidableEq

instance : Fintype CK where
  elems := {.bar} ∪ Finset.univ.image (fun p : Fin 3 × Fin 2 => .snd p.1 p.2) ∪ Finset.univ.image (fun p : Fin 3 × Fin 2 => .rcv p.1 p.2)
    ∪ Finset.univ.image .asnd ∪ Finset.univ.image .arcv
  complete k := by cases k <;> simp

def csem : CK → SemLoc sig
  | .bar => .reg barS
  | .snd i h => .dma (sendS i h)
  | .rcv i h => .dma (recvS i h)
  | .asnd i => .dma (aSendS i.succ)
  | .arcv i => .dma (aRecvS i.succ)

set_option maxRecDepth 4000 in
theorem csem_inj : Function.Injective csem := by
  have : ∀ a b : CK, csem a = csem b → a = b := by decide +kernel
  exact fun a b => this a b

abbrev cell (c : Dev nD) (k : CK) : GSem nD τ sig := ((c : Thread nD τ), csem k)

theorem cell_inj {c c' : Dev nD} {k k' : CK} (h : cell c k = cell c' k') : c = c' ∧ k = k' :=
  ⟨congrArg (fun g : GSem nD τ sig => g.1.1) h, csem_inj (congrArg Prod.snd h)⟩

/-- The credit of half a block, -/
def NX : ℕ := (xgH 0 0).view.dmaCredit
/-- and of a row of the maxima. -/
def NA : ℕ := (allJ 0).view.dmaCredit

theorem NX_xg : ∀ i h, (xgH i h).view.dmaCredit = NX := by decide +kernel
theorem NX_xs : ∀ i h, (xsH i h).view.dmaCredit = NX := by decide +kernel
theorem NA_all : ∀ i, (allJ i).view.dmaCredit = NA := by decide +kernel
theorem NA_my : myM.view.dmaCredit = NA := by decide +kernel
theorem NX_pos : 0 < NX := View.dmaCredit_pos _ (by decide)
theorem NA_pos : 0 < NA := View.dmaCredit_pos _ (by decide)

/-- The units one raise of a semaphore brings. -/
def amt : CK → ℕ
  | .bar => 1
  | .snd _ _ => NX
  | .rcv _ _ => NX
  | .asnd _ => NA
  | .arcv _ => NA

theorem amt_pos (k : CK) : 0 < amt k := by
  cases k <;> first | exact Nat.one_pos | exact NX_pos | exact NA_pos

/-- Who raises a semaphore once: the barrier's three payers, the others' only one. -/
def dut : CK → Finset (Fin 3)
  | .bar => Finset.univ
  | _ => {0}

/-- The level of a semaphore: the barrier's below the blocks' arrival below the maxima's. -/
def lvl : CK → ℕ
  | .bar => 1
  | .rcv _ _ => 2
  | .arcv _ => 3
  | _ => 0

/-- The shares of the local maximum the three sends of it read through. -/
abbrev myShare (i : Fin 3) : PosShare TreeShare := Transfers.shareTok fullShare 3 i

/-- What raise `d` of a semaphore hands its owner: at the barrier, the places at the payer's which the owner
    will send into; at a send's semaphore what the send read; at an arrival's what arrived. -/
def pay (c : Dev nD) : CK → Fin 3 → sProp 𝕄
  | .bar, d => iprop((∃ v, hold (pl c (Fin.rev d)) (xgH d 0) v) ∗ (∃ v, hold (pl c (Fin.rev d)) (xgH d 1) v)
      ∗ (∃ v, hold (pl c (Fin.rev d)) (allJ d.succ) v))
  | .snd i h, _ => hold c (xsH i h) (sentV m c i h)
  | .rcv i h, _ => hold c (xgH i h) (sentV m (pl c i) (Fin.rev i) h)
  | .asnd i, _ => part c myM (myShare i) (splat (amaxV m c))
  | .arcv i, _ => hold c (allJ i.succ) (splat (amaxV m (pl c i)))

instance pay_storable (c : Dev nD) (k : CK) (d : Fin 3) : BI.Storable (upEmb : UEmb _ 𝕄) (pay m c k d) := by
  cases k <;> unfold pay <;> infer_instance

/-- The one round of the exchange. -/
def Rd : Rounds.Schedule (GSem nD τ sig) (Fin 3) 𝕄 where
  duties g r := if r = 0 ∧ g.1.2 = .tc then Function.extend csem dut (fun _ => ∅) g.2 else ∅
  unitless _ := False
  amount g _ _ := Function.extend csem amt (fun _ => 1) g.2
  payload g _ d := Function.extend csem (fun k => pay m g.1.1 k d) (fun _ => iprop(emp)) g.2
  amount_pos g _ _ _ := by
    by_cases h : ∃ k, csem k = g.2
    · obtain ⟨k, hk⟩ := h
      rw [← hk, csem_inj.extend_apply]; exact amt_pos k
    · rw [Function.extend_apply' _ _ _ h]; exact Nat.one_pos

instance Rd_storable (g : GSem nD τ sig) (r : ℕ) (d : Fin 3) : BI.Storable (upEmb : UEmb _ 𝕄) ((Rd (F := F) m).payload g r d) := by
  show BI.Storable upEmb (Function.extend csem (fun k => pay m g.1.1 k d) (fun _ => iprop(emp)) g.2)
  by_cases h : ∃ k, csem k = g.2
  · obtain ⟨k, hk⟩ := h
    rw [← hk, csem_inj.extend_apply]; infer_instance
  · rw [Function.extend_apply' _ _ _ h]; infer_instance

theorem duties_at (c : Dev nD) (k : CK) : (Rd (F := F) m).duties (cell c k) 0 = dut k := by
  dsimp only [Rd]; rw [if_pos ⟨rfl, rfl⟩]; exact csem_inj.extend_apply _ _ k
theorem duties_later (g : GSem nD τ sig) : ∀ r, 1 ≤ r → (Rd (F := F) m).duties g r = ∅ :=
  fun r hr => by dsimp only [Rd]; rw [if_neg fun h => by omega]
theorem amount_at (c : Dev nD) (k : CK) (r : ℕ) (d : Fin 3) : (Rd (F := F) m).amount (cell c k) r d = amt k := by
  dsimp only [Rd]; exact csem_inj.extend_apply _ _ k
theorem payload_at (c : Dev nD) (k : CK) (r : ℕ) (d : Fin 3) : (Rd (F := F) m).payload (cell c k) r d = pay m c k d := by
  dsimp only [Rd]; exact csem_inj.extend_apply (fun k => pay m c k d) _ k
theorem expect_at (c : Dev nD) (k : CK) : (Rd (F := F) m).expect (cell c k) 0 = (dut k).card * amt k := by
  unfold Schedule.expect Schedule.amountOf
  rw [duties_at, Finset.sum_congr rfl fun d _ => amount_at m c k 0 d, Finset.sum_const, smul_eq_mul]
theorem rest_at (c : Dev nD) (k : CK) :
    bigSep ((Rd (F := F) m).duties (cell c k) 0 \ ∅) (fun d => (Rd (F := F) m).payload (cell c k) 0 d) = bigSep (dut k) (pay m c k) := by
  rw [Finset.sdiff_empty, duties_at]; exact bigSep_congr fun d _ => payload_at m c k 0 d

/-! ## What a device owes, and the levels -/

/-- A raise a device owes another. -/
inductive DK where
  | bar (i : Fin 3)
  | rcv (i : Fin 3) (h : Fin 2)
  | arcv (i : Fin 3)
deriving DecidableEq

instance : Fintype DK where
  elems := Finset.univ.image .bar ∪ Finset.univ.image (fun p : Fin 3 × Fin 2 => .rcv p.1 p.2) ∪ Finset.univ.image .arcv
  complete k := by cases k <;> simp

/-- By how many places the device owed to is on. -/
def DK.to : DK → Fin 3 | .bar i => i | .rcv i _ => i | .arcv i => i
/-- The semaphore there. -/
def DK.ck : DK → CK | .bar _ => .bar | .rcv i h => .rcv (Fin.rev i) h | .arcv i => .arcv (Fin.rev i)

abbrev dcell (c : Dev nD) (d : DK) : GSem nD τ sig := cell (pl c d.to) d.ck

/-- What a list of raises owed comes to, the first to be paid first. -/
def owe (c : Dev nD) (l : List DK) : CellTallies nD τ sig Unit :=
  l.foldr (fun d O => O + tallyAt (dcell c d) () (amt d.ck)) 0

/-- The maxima's raises in the order they are sent, -/
def owedA : List DK := [.arcv 0, .arcv 2, .arcv 1]
/-- before them the blocks', -/
def owedX : List DK := [.rcv 0 0, .rcv 0 1, .rcv 2 0, .rcv 2 1, .rcv 1 0, .rcv 1 1] ++ owedA
/-- and before them the barrier's. -/
def owed : List DK := [.bar 0, .bar 1, .bar 2] ++ owedX
def O₀ (c : Dev nD) : CellTallies nD τ sig Unit := owe c owed

theorem owe_pos {c : Dev nD} {l : List DK} {g : GSem nD τ sig} {u : Unit} (h : 0 < owe c l g u) : ∃ d ∈ l, g = dcell c d := by
  induction l with
  | nil => exact absurd h (Nat.lt_irrefl 0)
  | cons d l ih =>
    have e : owe c (d :: l) g u = owe c l g u + tallyAt (dcell c d) () (amt d.ck) g u := rfl
    rw [e, tallyAt_apply] at h
    by_cases hd : g = dcell c d
    · exact ⟨d, List.mem_cons_self, hd⟩
    · rw [if_neg (fun h' => hd h'.1)] at h
      obtain ⟨d', hd', e'⟩ := ih h
      exact ⟨d', List.mem_cons_of_mem _ hd', e'⟩

def L (g : GSem nD τ sig) : Finset Unit := if g.1.2 = .tc then {()} else ∅
def lv (g : GSem nD τ sig) (_ : Unit) : ℕ := Function.extend csem lvl (fun _ => 0) g.2

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : CK) (u : Unit) : lv (cell c k) u = lvl k := csem_inj.extend_apply _ _ k

/-- A semaphore below everything owed may be waited for. -/
theorem mayWait_of (c : Dev nD) (sm : SemLoc sig) (l : List DK) (n : ℕ) (hn : lv ((c : Thread nD τ), sm) () ≤ n)
    (hl : ∀ d ∈ l, n < lvl d.ck) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨d, -, rfl⟩ := owe_pos hg; rw [L_tc]; exact Finset.mem_singleton_self _)
    (fun p hp => by rw [Finset.mem_singleton.mp hp]; exact hn)
    (fun g u hg => by obtain ⟨d, hd, rfl⟩ := owe_pos hg; rw [lv_at]; exact hl d hd)

/-- A semaphore of the exchange may be waited for if its level is below what is owed; -/
theorem mayWait_cell (c : Dev nD) (k : CK) (l : List DK) (hl : ∀ d ∈ l, lvl k < lvl d.ck) :
    (levAts L lv : sProp 𝕄) ⊢ MayWait (c : Thread nD τ) (csem k) () (owe c l) :=
  mayWait_of c (csem k) l (lvl k) (le_of_eq (lv_at c k ())) hl

/-- any other one always. -/
theorem mayWait_local (c : Dev nD) (sm : SemLoc sig) (l : List DK) (h : ∀ k, csem k ≠ sm) (hl : ∀ d ∈ l, 0 < lvl d.ck) :
    (levAts L lv : sProp 𝕄) ⊢ MayWait (c : Thread nD τ) sm () (owe c l) :=
  mayWait_of c sm l 0 (le_of_eq (Function.extend_apply' _ _ _ fun ⟨k, hk⟩ => h k hk)) hl

theorem owed_pos : ∀ d : DK, 0 < lvl d.ck := by decide
theorem local_wS : ∀ s k, csem k ≠ .dma (wS s) := by decide +kernel
theorem local_outS : ∀ s k, csem k ≠ .dma (outS s) := by decide +kernel
theorem local_locS : ∀ k, csem k ≠ .dma locS := by decide +kernel
theorem local_stageS : ∀ k, csem k ≠ .dma stageS := by decide +kernel

end Cert.KernelIdeal.Own

end
-- ==== Proof.Exch.lean ====
/-
  The rules for the exchange's steps on one device: the barrier's signals and its wait, the sends of the
  blocks and of the local maximum, the waits for what arrives and for what has been sent.
-/
module

public import proofs.«01_k».proof.Proof.Sched

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- What every device knows: the exchange's invariants, that every semaphore of it has reached its round,
    the levels. -/
def recs : sProp 𝕄 :=
  iprop((bigSep Finset.univ fun ck : Dev nD × CK => cellInv ER (Rd (F := F) m) (K ck) (cell ck.1 ck.2))
    ∗ (bigSep Finset.univ fun ck : Dev nD × CK => reached ER (cell ck.1 ck.2) 0) ∗ levAts L lv)

instance recs_persistent : BI.Persistent (recs (F := F) m K) := by unfold recs; infer_instance

theorem recs_inv (c : Dev nD) (k : CK) : recs (F := F) m K ⊢ cellInv ER (Rd (F := F) m) (K (c, k)) (cell c k) := by
  unfold recs
  have h : (bigSep Finset.univ fun ck : Dev nD × CK => cellInv ER (Rd (F := F) m) (K ck) (cell ck.1 ck.2)) ⊢ cellInv ER (Rd (F := F) m) (K (c, k)) (cell c k) :=
    bigSep_elim (Finset.mem_univ (c, k))
  iintro ⟨H, -, -⟩
  iapply h
  iexact H
theorem recs_reached (c : Dev nD) (k : CK) : recs (F := F) m K ⊢ reached ER (cell c k) 0 := by
  unfold recs
  have h : (bigSep Finset.univ fun ck : Dev nD × CK => (reached ER (cell ck.1 ck.2) 0 : sProp 𝕄)) ⊢ reached ER (cell c k) 0 :=
    bigSep_elim (Finset.mem_univ (c, k))
  iintro ⟨-, H, -⟩
  iapply h
  iexact H
theorem recs_levs : recs (F := F) m K ⊢ levAts L lv := by
  unfold recs
  iintro ⟨-, -, H⟩
  iexact H

/-- The right to raise a semaphore once, the standing of its owner, and the credit to wait with. -/
def tok (c : Dev nD) (k : CK) (d : Fin 3) : sProp 𝕄 := dutyTok ER (cell c k) 0 d
def pos (c : Dev nD) (k : CK) : sProp 𝕄 := atPos ER (cell c k) 0 ∅ 0
def crd (c : Dev nD) (k : CK) : sProp 𝕄 := cred (tallyAt (cell c k) () ((dut k).card * amt k))
/-- A semaphore at zero. -/
def zero (c : Dev nD) (k : CK) : sProp 𝕄 := semVal (cell c k) 0

variable (c : Dev nD) {Q : PUnit.{1} → sProp (MT nD τ sig Unit (Elt F) ℕ UU ℕ)}

theorem wp_signalP (i : Fin 3) (l : List DK) (k : Pg F) :
    iprop(recs m K ∗ owing c (owe c (.bar i :: l)) ∗ tok (pl c i) .bar i
        ∗ (∃ v, hold c (xgH i 0) v) ∗ (∃ v, hold c (xgH i 1) v) ∗ (∃ v, hold c (allJ i.succ) v))
      ⊢ iprop((owing c (owe c l) -∗ WP c k Q) -∗ WP c (signal c i k) Q) := by
  have key (n : Dev nD) (hn : n = pl c i) :
      iprop(recs m K ∗ owing c (owe c (.bar i :: l)) ∗ tok (pl c i) .bar i ∗ pay m (pl c i) .bar i)
      ⊢ iprop((owing c (owe c l) -∗ WP c k Q) -∗ WP c (.op (.semSignal (Dev.tc n) barS 1) fun _ => k) Q) := by
    subst hn
    unfold owing tok
    iintro ⟨#HR, ⟨%W, HO⟩, Ht, Hp⟩ Hk
    iapply (Rounds.wp_signal 𝒱₀ ER (Rd m) (c : Thread nD τ) none (dst := (pl c i : Thread nD τ)) (sem := barS) (κ := K (pl c i, .bar))
      (r := 0) (d := i) (by show i ∈ (Rd m).duties (cell (pl c i) .bar) 0; rw [duties_at]; exact Finset.mem_univ _)
      (amount_at m (pl c i) .bar 0 i) () (owe c l) rfl) $$ [HO Ht Hp]
    · isplitr; · iapply (recs_inv m K (pl c i) .bar); iexact HR
      isplitl [HO]; · iexact HO
      isplitl [Ht]; · iexact Ht
      isplitl [Hp]; · rw [show (Rd m).payload ((pl c i : Thread nD τ), .reg barS) 0 i = pay m (pl c i) .bar i from payload_at m (pl c i) .bar 0 i]; iexact Hp
      iapply (recs_reached m K (pl c i) .bar); iexact HR
    iintro HO
    iapply Hk
    iexists W; iexact HO
  refine BIBase.Entails.trans ?_ (key _ (devS_eq c i))
  have e : pay m (pl c i) .bar i = iprop((∃ v, hold c (xgH i 0) v) ∗ (∃ v, hold c (xgH i 1) v) ∗ (∃ v, hold c (allJ i.succ) v)) := by
    show iprop((∃ v, hold (pl (pl c i) (Fin.rev i)) (xgH i 0) v) ∗ (∃ v, hold (pl (pl c i) (Fin.rev i)) (xgH i 1) v)
      ∗ (∃ v, hold (pl (pl c i) (Fin.rev i)) (allJ i.succ) v)) = _
    rw [pl_rev]
  rw [e]

/-- A wait for everything a semaphore of the exchange is raised by: what the raises hand over, and the
    semaphore at zero. -/
theorem wp_waitC (k : CK) (l : List DK) (hl : ∀ d ∈ l, lvl k < lvl d.ck) {w : TpuEff nD τ sig (Elt F) Λ₀ (c : Thread nD τ).2 PUnit} {n : ℕ}
    (hw : ∀ Kt : PUnit → sProp 𝕄, wpE (defs₀ (F := F)) 𝒱₀ (c : Thread nD τ) none Set.univ w Kt = waitSpec (c : Thread nD τ) Set.univ (csem k) n Kt)
    (hn : n = (dut k).card * amt k) (kt : PUnit → Pg F) :
    iprop(recs m K ∗ crd c k ∗ owing c (owe c l) ∗ pos c k)
      ⊢ iprop((iprop(owing c (owe c l) ∗ zero c k ∗ bigSep (dut k) (pay m c k)) -∗ WP c (kt ⟨⟩) Q) -∗ WP c (.op w kt) Q) := by
  unfold owing crd pos zero
  iintro ⟨#HR, Hc, ⟨%W, HO⟩, Hat⟩ Hk
  iapply (Rounds.wp_wait_rest_token 𝒱₀ ER (Rd m) (c : Thread nD τ) none (κ := K (c, k)) hw (Set.mem_univ _) () (O := owe c l) (W := W)
    (R := 0) (m := 0) (T := ∅) (by rw [Nat.zero_add, hn]; exact (expect_at m c k).symm)) $$ [Hc HO Hat]
  · isplitr; · iapply (recs_inv m K c k); iexact HR
    isplitl [Hc]; · rw [hn]; iexact Hc
    isplitl [HO]; · iexact HO
    isplitr; · iapply (mayWait_cell c k l hl); iapply (recs_levs m K); iexact HR
    iexact Hat
  iintro ⟨HO, Hat, -, Hpay⟩
  ihave Hpay := (Entails.of_eq (rest_at m c k)) $$ Hpay
  imod (Rounds.cell_close ER (Rd m) (Set.mem_univ (K (c, k))) (fun h => h) (R := 0 + 1) (duties_later m (cell c k))) $$ [Hat] with Hz
  · isplitr; · iapply (recs_inv m K c k); iexact HR
    iexact Hat
  iapply Hk
  isplitl [HO]; · iexists _; iexact HO
  isplitl [Hz]; · iexact Hz
  iexact Hpay

theorem wp_waitBar (kt : PUnit → Pg F) :
    iprop(recs m K ∗ crd c .bar ∗ owing c (owe c owedX) ∗ pos c .bar)
      ⊢ iprop((iprop(owing c (owe c owedX) ∗ zero c .bar ∗ bigSep Finset.univ (pay m c .bar)) -∗ WP c (kt ⟨⟩) Q)
        -∗ WP c (.op (.semWait barS 3) kt) Q) :=
  wp_waitC m K c .bar owedX (by decide) (wpE_semWait_eq 𝒱₀ (c : Thread nD τ) none Set.univ) (by decide +kernel) kt

theorem wp_waitD {sp sp' : Space} {s s' : Shape} {e e' : EltTy} {sem : DmaSem sig} {srcw : Memref sig .tc sp' s' e'} {dstw : Memref sig .tc sp s e}
    {hsrc : srcw.view.WordExact} {hdst : dstw.view.WordExact} (k : CK) (hk : csem k = .dma sem) (hN : dstw.view.dmaCredit = amt k) (hd : dut k = {0})
    (l : List DK) (hl : ∀ d ∈ l, lvl k < lvl d.ck) (kt : PUnit → Pg F) :
    iprop(recs m K ∗ crd c k ∗ owing c (owe c l) ∗ pos c k)
      ⊢ iprop((iprop(owing c (owe c l) ∗ zero c k ∗ pay m c k 0) -∗ WP c (kt ⟨⟩) Q)
        -∗ WP c (.op (.waitDma2 sem srcw dstw hsrc hdst) kt) Q) := by
  have := wp_waitC (Q := Q) m K c k l hl (w := .waitDma2 sem srcw dstw hsrc hdst) (n := dstw.view.dmaCredit)
    (by rw [hk]; exact wpE_waitDma2_eq 𝒱₀ (c : Thread nD τ) none Set.univ) (by rw [hd, hN, Finset.card_singleton, Nat.one_mul]) kt
  rwa [hd, bigSep_singleton] at this

/-- A send to the device `1 + i` places on, of a piece read at a share into a place there it was given. -/
theorem wp_sendD {s : Shape} {e : EltTy} (i : Fin 3) (n : Dev nD) (hn : n = pl c i) {src dst : Memref sig .tc .vmem s e} {sS sem : DmaSem sig}
    {hsc : (dst : Memref sig (Dev.tc n : Thread nD τ).2.kind .vmem s e).view.ref.isScScratch = false}
    {hsrc : src.view.WordExact} {hdst : dst.view.WordExact}
    {hsem : DmaTarget.Typed .vmem (.dma sem) (.remote (Dev.tc n : Thread nD τ) (dst : Memref sig .tc .vmem s e) (.dma sS) hsc)}
    (d : DK) (hd : d.to = i) (kS : CK) (hkS : csem kS = .dma sS) (hk : csem d.ck = .dma sem) (hdS : dut kS = {0}) (hdR : dut d.ck = {0})
    (hN : dst.view.dmaCredit = amt d.ck) (hNS : amt kS = amt d.ck) (q : PosShare TreeShare) (X : s.Idx → Elt F e)
    (hpS : pay m c kS 0 = part c src q X) (hpR : pay m (pl c i) d.ck 0 = hold (pl c i) dst X)
    (l : List DK) (kt : PUnit → Pg F) :
    iprop(recs m K ∗ part c src q X ∗ (∃ v, hold (pl c i) dst v) ∗ owing c (owe c (d :: l)) ∗ tok c kS 0 ∗ tok (pl c i) d.ck 0)
      ⊢ iprop((iprop(crd c kS ∗ owing c (owe c l)) -∗ WP c (kt ⟨⟩) Q)
        -∗ WP c (.op (.enqueueDma src (.remote (Dev.tc n : Thread nD τ) dst (.dma sS) hsc) (.dma sem) hsrc hdst hsem) kt) Q) := by
  subst hn
  unfold owing tok crd
  iintro ⟨#HR, Hs, ⟨%v, Hd⟩, ⟨%W, HO⟩, HtS, HtR⟩ Hk
  unfold part hold owns
  icases Hs with ⟨%fs, %hfs, Hs⟩
  icases Hd with ⟨%fd, -, Hd⟩
  have eS : cell c kS = ((c : Thread nD τ), .dma sS) := by rw [← hkS]
  have eR : cell (pl c i) d.ck = ((pl c i : Thread nD τ), .dma sem) := by rw [← hk]
  have hO : owe c (d :: l) = owe c l + tallyAt ((pl c i : Thread nD τ), .dma sem) () (amt d.ck) := by
    rw [← eR, ← hd]; rfl
  iapply (Rounds.wp_send_pointsTo 𝒱₀ ER (Rd m) (c : Thread nD τ) none (κ₁ := K (c, kS)) (κ₂ := K (pl c i, d.ck)) (r₁ := 0) (r₂ := 0) (d₁ := 0) (d₂ := 0)
    (c' := (pl c i : Thread nD τ)) (src := src) (dst := dst) (sS := .dma sS) (sem := .dma sem) (fs := fs) (fd := fd) (q := q)
    (by rw [← eS, duties_at, hdS]; exact Finset.mem_singleton_self _) (by rw [← eR, duties_at, hdR]; exact Finset.mem_singleton_self _)
    () () (amt d.ck) hN (by rw [← eS, amount_at, hNS]) (by rw [← eR, amount_at]) (owe c l) hO (W := W)
    (by
      rw [← eS, payload_at, hpS]
      unfold part owns
      iintro H; iexists fs; isplitr; · ipureintro; exact hfs
      iexact H)
    (by
      rw [← eR, payload_at, hpR]
      unfold hold owns
      iintro H; iexists _; isplitr
      rotate_left
      · iexact H
      · ipureintro; rw [View.read_write_univ]; exact hfs)) $$ [Hs Hd HO HtS HtR]
  · isplitr; · rw [← eS]; iapply (recs_inv m K c kS); iexact HR
    isplitr; · rw [← eR]; iapply (recs_inv m K (pl c i) d.ck); iexact HR
    isplitl [Hs]; · iexact Hs
    isplitl [Hd]; · iexact Hd
    isplitl [HO]; · iexact HO
    isplitl [HtS]; · rw [← eS]; iexact HtS
    isplitr; · rw [← eS]; iapply (recs_reached m K c kS); iexact HR
    isplitl [HtR]; · rw [← eR]; iexact HtR
    rw [← eR]; iapply (recs_reached m K (pl c i) d.ck); iexact HR
  iintro ⟨Hc, HO⟩
  iapply Hk
  isplitl [Hc]
  · rw [hdS, Finset.card_singleton, Nat.one_mul, hNS, ← eS]; iexact Hc
  iexists W; iexact HO

theorem wp_sendX (i : Fin 3) (h : Fin 2) (l : List DK) (k : Pg F) :
    iprop(recs m K ∗ hold c (xsH i h) (sentV m c i h) ∗ (∃ v, hold (pl c i) (xgH (Fin.rev i) h) v) ∗ owing c (owe c (.rcv i h :: l))
        ∗ tok c (.snd i h) 0 ∗ tok (pl c i) (.rcv (Fin.rev i) h) 0)
      ⊢ iprop((iprop(crd c (.snd i h) ∗ owing c (owe c l)) -∗ WP c k Q) -∗ WP c (sendX c i h k) Q) :=
  wp_sendD m K c i (devX c i h) (devX_eq c i h) (.rcv i h) rfl (.snd i h) rfl rfl rfl rfl (NX_xg _ _) rfl fullShare (sentV m c i h) rfl
    (by show hold _ _ (sentV m (pl (pl c i) (Fin.rev i)) (Fin.rev (Fin.rev i)) h) = _; rw [pl_rev, Fin.rev_rev]) l (fun _ => k)

theorem wp_sendA (i : Fin 3) (l : List DK) (k : Pg F) :
    iprop(recs m K ∗ part c myM (myShare i) (splat (amaxV m c)) ∗ (∃ v, hold (pl c i) (allJ (Fin.rev i).succ) v) ∗ owing c (owe c (.arcv i :: l))
        ∗ tok c (.asnd i) 0 ∗ tok (pl c i) (.arcv (Fin.rev i)) 0)
      ⊢ iprop((iprop(crd c (.asnd i) ∗ owing c (owe c l)) -∗ WP c k Q) -∗ WP c (sendA c i k) Q) :=
  wp_sendD m K c i (devA c i) (devA_eq c i) (.arcv i) rfl (.asnd i) rfl rfl rfl rfl (NA_all _) rfl (myShare i) (splat (amaxV m c)) rfl
    (by show hold _ _ (splat (amaxV m (pl (pl c i) (Fin.rev i)))) = _; rw [pl_rev]) l (fun _ => k)

theorem wp_waitA (i : Fin 3) (k : Pg F) :
    iprop(recs m K ∗ crd c (.arcv i) ∗ owing c (owe c []) ∗ pos c (.arcv i))
      ⊢ iprop((iprop(owing c (owe c []) ∗ zero c (.arcv i) ∗ hold c (allJ i.succ) (splat (amaxV m (pl c i)))) -∗ WP c k Q) -∗ WP c (waitA i k) Q) :=
  wp_waitD m K c (.arcv i) rfl (NA_all _) rfl [] (fun _ h => absurd h List.not_mem_nil) fun _ => k
theorem wp_drainX (i : Fin 3) (h : Fin 2) (k : Pg F) :
    iprop(recs m K ∗ crd c (.snd i h) ∗ owing c (owe c []) ∗ pos c (.snd i h))
      ⊢ iprop((iprop(owing c (owe c []) ∗ zero c (.snd i h) ∗ hold c (xsH i h) (sentV m c i h)) -∗ WP c k Q) -∗ WP c (drainX i h k) Q) :=
  wp_waitD m K c (.snd i h) rfl (NX_xs _ _) rfl [] (fun _ h => absurd h List.not_mem_nil) fun _ => k
theorem wp_drainA (i : Fin 3) (k : Pg F) :
    iprop(recs m K ∗ crd c (.asnd i) ∗ owing c (owe c []) ∗ pos c (.asnd i))
      ⊢ iprop((iprop(owing c (owe c []) ∗ zero c (.asnd i) ∗ part c myM (myShare i) (splat (amaxV m c))) -∗ WP c k Q) -∗ WP c (drainA i k) Q) :=
  wp_waitD m K c (.asnd i) rfl NA_my rfl [] (fun _ h => absurd h List.not_mem_nil) fun _ => k
theorem wp_waitX (i : Fin 3) (h : Fin 2) (kt : PUnit → Pg F) :
    iprop(recs m K ∗ crd c (.rcv i h) ∗ owing c (owe c owedA) ∗ pos c (.rcv i h))
      ⊢ iprop((iprop(owing c (owe c owedA) ∗ zero c (.rcv i h) ∗ hold c (xgH i h) (sentV m (pl c i) (Fin.rev i) h)) -∗ WP c (kt ⟨⟩) Q)
        -∗ WP c (.op (.waitDma2 (recvS i h) (xsH 0 h) (xgH i h) (xsWords 0 h) (xgWords i h)) kt) Q) :=
  wp_waitD m K c (.rcv i h) rfl (NX_xg _ _) rfl owedA (by show ∀ d ∈ owedA, 2 < lvl d.ck; decide) kt

end Cert.KernelIdeal.Own

end
-- ==== Proof.Loop.lean ====
/-
  The sixty-four steps: what a device holds before step `f`, the rule of one step at a symbolic `f`, and the
  run of all of them by induction.
-/
module

public import proofs.«01_k».proof.Proof.Exch

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)
variable (c : Dev nD) {Q : PUnit.{1} → sProp (MT nD τ sig Unit (Elt F) ℕ UU ℕ)}

/-! ## Fetching the weight tiles -/

/-- The shares of the weights the three slots' fetches read through. -/
abbrev wShare (s : Fin 3) : PosShare TreeShare := Transfers.shareTok fullShare 3 s
def wTok (s : Fin 3) : sProp 𝕄 := part c wM (wShare s) (wv m c)
/-- The weight tile of step `f`. -/
def wAt (f : ℕ) : Vec F S512x1024 .f32 := wVal m c (oOf f) (cOf f) (tOf f)

/-- A slot with no fetch into it. -/
def wFree (s : Fin 3) : sProp 𝕄 :=
  iprop((∃ v, hold (F := F) c (wbS s) v) ∗ semVal ((c : Thread nD τ), SemLoc.dma (wS s)) 0 ∗ wTok m c s)
/-- The slot of step `f` with its fetch under way. -/
def wFly (f : ℕ) : sProp 𝕄 :=
  iprop(Transfers.Flight EC (c : Thread nD τ) (.dma (wS (sOf f))) () (wbS (sOf f)).view.dmaCredit
      iprop(hold c (wbS (sOf f)) (wAt m c f) ∗ part c (wT c (oOf f) (cOf f) (tOf f)) (wShare (sOf f)) (wAt m c f))
    ∗ (part c (wT c (oOf f) (cOf f) (tOf f)) (wShare (sOf f)) (wAt m c f) -∗ wTok m c (sOf f)))
def wSlot (f : ℕ) : sProp 𝕄 := if f < 64 then wFly m c f else wFree m c (sOf f)

theorem wb_pos (s : Fin 3) : 0 < (wbS s).view.dmaCredit := View.dmaCredit_pos _ (by decide)

theorem wp_startW (f : ℕ) (k : Pg F) :
    wFree m c (sOf f) ⊢ iprop((wFly m c f -∗ WP c k Q) -∗ WP c (startW c f k) Q) := by
  unfold wFree wTok startW
  iintro ⟨⟨%v, Hb⟩, Hv, Hw⟩ Hk
  ihave Hw := (part_lend (F := F) (c := c) wM (wR c (oOf f) (cOf f) (tOf f)) (fun _ => rfl) (wShare (sOf f)) (wv m c)) $$ Hw
  icases Hw with ⟨Hs, Hback⟩
  iapply (wp_startP (F := F) (c := c) (src := wT c (oOf f) (cOf f) (tOf f)) (dst := wbS (sOf f)) (sem := wS (sOf f)) (q := wShare (sOf f))
    (hsrc := View.wordExact_bits rfl) (hdst := (View.wordExact_bits rfl).reshape _ _) (hsem := ⟨Or.inl rfl, trivial⟩)
    (k := fun _ => k) (X := wAt m c f) (Y := v) (wb_pos _)) $$ [Hs Hb Hv]
  · isplitl [Hs]; · iexact Hs
    isplitl [Hb]; · iexact Hb
    iexact Hv
  iintro HF
  iapply Hk
  unfold wFly wTok
  isplitl [HF]; · iexact HF
  iexact Hback

theorem wp_waitW (f : ℕ) (k : Pg F) :
    iprop(recs m K ∗ wFly m c f ∗ owing c (owe c owedA))
      ⊢ iprop((iprop(hold c (wbS (sOf f)) (wAt m c f) ∗ semVal ((c : Thread nD τ), SemLoc.dma (wS (sOf f))) 0 ∗ wTok m c (sOf f)
          ∗ owing c (owe c owedA)) -∗ WP c k Q) -∗ WP c (waitW c f k) Q) := by
  unfold wFly waitW
  iintro ⟨#HR, ⟨HF, Hback⟩, HO⟩ Hk
  iapply (wp_awaitP (F := F) (c := c) (sem := wS (sOf f)) (srcw := wT c (oOf f) (cOf f) (tOf f)) (dstw := wbS (sOf f)) (hsrc := View.wordExact_bits rfl)
    (hdst := (View.wordExact_bits rfl).reshape _ _) (k := fun _ => k) (O := owe c owedA) rfl) $$ [HF HO]
  · isplitl [HF]; · iexact HF
    isplitl [HO]; · iexact HO
    iapply (mayWait_local c (.dma (wS (sOf f))) owedA (local_wS _) (fun d _ => owed_pos d))
    iapply (recs_levs m K); iexact HR
  iintro ⟨⟨Hb, Hs⟩, Hv, HO⟩
  iapply Hk
  isplitl [Hb]; · iexact Hb
  isplitl [Hv]; · iexact Hv
  isplitl [Hback Hs]; · iapply Hback; iexact Hs
  iexact HO

/-! ## The received halves -/

/-- In which half block's turn half `h` of slot `i` is taken. -/
def bOf (p : Fin 3 × Fin 2) : ℕ := (![4, 6, 2] p.1 : ℕ) + p.2.val
/-- A received half before it is taken, and after. -/
def rcvAt (p : Fin 3 × Fin 2) (b : Bool) : sProp 𝕄 :=
  match b with
  | false => iprop(crd c (.rcv p.1 p.2) ∗ pos c (.rcv p.1 p.2))
  | true => iprop(zero c (.rcv p.1 p.2) ∗ hold c (xgH p.1 p.2) (sentV m (pl c p.1) (Fin.rev p.1) p.2))
def rcvs (b : Fin 3 × Fin 2 → Bool) : sProp 𝕄 := bigSep Finset.univ fun p => rcvAt m c p (b p)
def taken (f : ℕ) (p : Fin 3 × Fin 2) : Bool := decide (8 * bOf p < f)

/-! ## The working block and the tiles -/

def xbH (h : Fin 2) : Memref sig .tc .vmem S1024x512 .f32 := xbM.slice (halfR h) (fun _ => rfl)
def xbs (B : Fin 2 → Half F) : sProp 𝕄 := bigSep Finset.univ fun h => hold c (xbH h) (B h)
def accs (A : Fin 8 → Tile F) : sProp 𝕄 := bigSep Finset.univ fun t => hold c (accT t) (A t)

/-- The working block's halves hold what step `f` relies on. -/
def xbOk (f : ℕ) (B : Fin 2 → Half F) : Prop :=
  (f < 16 → ∀ h, B h = halfV m c 0 h) ∧ (f % 8 ≠ 0 → B (cB (f / 8)) = halfV m c (oB (f / 8)) (cB (f / 8)))
/-- Every tile begun holds the sum of its products so far. -/
def accOk (f : ℕ) (A : Fin 8 → Tile F) : Prop :=
  ∀ t : Fin 8, t.val < f → A t = tileV m c t ((f + 7 - t.val) / 8 - 1)

/-- What a device holds before step `f`. -/
def Inv (f : ℕ) : sProp 𝕄 :=
  iprop(owing c (owe c owedA) ∗ wSlot m c f ∗ wSlot m c (f + 1) ∗ wFree m c (sOf (f + 2)) ∗ rcvs m c (taken f)
    ∗ (∃ B, ⌜xbOk m c f B⌝ ∗ xbs c B) ∗ (∃ A, ⌜accOk m c f A⌝ ∗ accs c A))

theorem wbS_hold (s : Fin 3) (v : Vec F S512x1024 .f32) :
    hold (F := F) c (wbS s) v = hold c (wbM.slice (wbR s) (fun _ => rfl)) (wSlotV v) :=
  part_squeeze (wbM.slice (wbR s) (fun _ => rfl)) squeezes_S1x512x1024_S512x1024 fullShare v
theorem xgH_hold (i : Fin 3) (h : Fin 2) (v : Vec F S1024x512 .bf16) :
    hold (F := F) c (xgH i h) v = hold c (xgM.slice (sliceR i h) (fun _ => rfl)) (slotV v) :=
  part_squeeze (xgM.slice (sliceR i h) (fun _ => rfl)) squeezes_S1x1024x512_S1024x512 fullShare v

theorem wp_loadXb (h : Fin 2) (v : Half F) (k : Half F → Pg F) :
    hold c (xbH h) v ⊢ iprop((hold c (xbH h) v -∗ WP c (k v) Q) -∗ WP c (loadXb h k) Q) :=
  wp_loadP (m := xbM) (r := halfR h) (hr := fun _ => rfl)
theorem wp_storeXb (h : Fin 2) (v w : Half F) (k : Pg F) :
    hold c (xbH h) v ⊢ iprop((hold c (xbH h) w -∗ WP c k Q) -∗ WP c (storeXb h w k) Q) :=
  wp_storeP (m := xbM) (r := halfR h) (hr := fun _ => rfl) (k := fun _ => k)
theorem wp_loadAcc (t : Fin 8) (v : Tile F) (k : Tile F → Pg F) :
    hold c (accT t) v ⊢ iprop((hold c (accT t) v -∗ WP c (k v) Q) -∗ WP c (loadAcc t k) Q) :=
  wp_loadP (m := accM) (r := tileR t) (hr := fun _ => rfl)
theorem wp_storeAcc (t : Fin 8) (v w : Tile F) (k : Pg F) :
    hold c (accT t) v ⊢ iprop((hold c (accT t) w -∗ WP c k Q) -∗ WP c (storeAcc t w k) Q) :=
  wp_storeP (m := accM) (r := tileR t) (hr := fun _ => rfl) (k := fun _ => k)
theorem wp_loadWb (s : Fin 3) (v : Vec F S512x1024 .f32) (k : WTile F → Pg F) :
    hold c (wbS s) v ⊢ iprop((hold c (wbS s) v -∗ WP c (k (wSlotV v)) Q) -∗ WP c (loadWb s k) Q) := by
  rw [wbS_hold]
  exact wp_loadP (m := wbM) (r := wbR s) (hr := fun _ => rfl)

theorem wp_loadXg (i : Fin 3) (h : Fin 2) (v : Vec F S1024x512 .bf16) (k : Vec F S1x1024x512 .bf16 → Pg F) :
    hold c (xgH i h) v ⊢ iprop((hold c (xgH i h) v -∗ WP c (k (slotV v)) Q)
      -∗ WP c (.op (.load xgM (sliceR i h).toLoadRect (View.loadsAt_vmem h_S1x1024x512)) k) Q) := by
  rw [xgH_hold]
  exact wp_loadP (m := xgM) (r := sliceR i h) (hr := fun _ => rfl)

/-- Taking a received half into the working block. -/
theorem wp_takeBlock (o : Fin 4) (h : Fin 2) (v : Half F) (k : Pg F) :
    iprop(recs m K ∗ rcvAt m c (slotOf o, h) false ∗ owing c (owe c owedA) ∗ hold c (xbH h) v)
      ⊢ iprop((iprop(rcvAt m c (slotOf o, h) true ∗ owing c (owe c owedA)
          ∗ hold c (xbH h) (widen (slotV (sentV m (pl c (slotOf o)) (Fin.rev (slotOf o)) h)))) -∗ WP c k Q) -∗ WP c (takeBlock o h k) Q) := by
  unfold rcvAt takeBlock
  iintro ⟨#HR, ⟨Hc, Hp⟩, HO, Hx⟩ Hk
  iapply (wp_waitX m K c (slotOf o) h) $$ [Hc Hp HO]
  · isplitr; · iexact HR
    isplitl [Hc]; · iexact Hc
    isplitl [HO] <;> iassumption
  iintro ⟨HO, Hz, Hg⟩
  iapply (wp_loadXg c (slotOf o) h (sentV m (pl c (slotOf o)) (Fin.rev (slotOf o)) h)) $$ Hg
  iintro Hg
  iapply (wp_loadXb c h v) $$ Hx
  iintro Hx
  iapply (wp_storeXb c h v) $$ Hx
  iintro Hx
  iapply Hk
  isplitl [Hz Hg]
  · isplitl [Hz]; · iexact Hz
    iexact Hg
  isplitl [HO] <;> iassumption

/-! ## One step -/

theorem slot_facts : ∀ b : Fin 8, 2 ≤ b.val → oB b.val ≠ 0 ∧ bOf (slotOf (oB b.val), cB b.val) = b.val := by decide
theorem oB_own : ∀ b : Fin 8, b.val < 2 → oB b.val = 0 := by decide
theorem bOf_inj : ∀ p q : Fin 3 × Fin 2, bOf p = bOf q → p = q := by decide
theorem bOf_ge : ∀ p : Fin 3 × Fin 2, 2 ≤ bOf p := by decide

theorem halfV_own (h : Fin 2) : halfV m c 0 h = fun j => xOwnV m c ((halfR h).emb j) := if_pos rfl
theorem halfV_rcv (o : Fin 4) (h : Fin 2) (ho : o ≠ 0) :
    halfV m c o h = widen (slotV (sentV m (pl c (slotOf o)) (Fin.rev (slotOf o)) h)) := by unfold halfV; rw [if_neg ho]

/-- Before the products of a half block its half is in the working block. -/
theorem wp_arrive (f : ℕ) (hf : f < 64) (k : Pg F) :
    iprop(recs m K ∗ owing c (owe c owedA) ∗ rcvs m c (taken f) ∗ (∃ B, ⌜xbOk m c f B⌝ ∗ xbs c B))
      ⊢ iprop((iprop(owing c (owe c owedA) ∗ rcvs m c (taken (f + 1))
            ∗ (∃ B, ⌜xbOk m c (f + 1) B ∧ B (cOf f) = halfV m c (oOf f) (cOf f)⌝ ∗ xbs c B)) -∗ WP c k Q) -∗ WP c (arrive f k) Q) := by
  have h8 : f / 8 < 8 := by omega
  unfold arrive
  iintro ⟨#HR, HO, Hr, %B, %hB, Hx⟩ Hk
  by_cases ha : f % 8 = 0 ∧ 16 ≤ f
  · rw [if_pos ha]
    obtain ⟨hne, hb⟩ := slot_facts ⟨f / 8, h8⟩ (by show 2 ≤ f / 8; omega)
    rw [← oOf_eq] at hne hb
    rw [← cOf_eq] at hb
    have hfalse : taken f (slotOf (oOf f), cOf f) = false := by
      unfold taken; rw [hb]; exact decide_eq_false (by show ¬ 8 * (f / 8) < f; omega)
    have htrue : Function.update (taken f) (slotOf (oOf f), cOf f) true = taken (f + 1) := by
      funext p
      by_cases hp : p = (slotOf (oOf f), cOf f)
      · subst hp; rw [Function.update_self]; unfold taken; rw [hb]; exact (decide_eq_true (by show 8 * (f / 8) < f + 1; omega)).symm
      · rw [Function.update_of_ne hp]
        unfold taken
        have : bOf p ≠ f / 8 := fun h => hp (bOf_inj _ _ (h.trans hb.symm))
        exact decide_eq_decide.mpr (by omega)
    unfold rcvs xbs
    ihave Hr := (bigSep_upd (F := F) (fun p b => rcvAt m c p b) (taken f) (slotOf (oOf f), cOf f)) $$ Hr
    icases Hr with ⟨Hr, Hrb⟩
    rw [hfalse]
    ihave Hx := (bigSep_upd (F := F) (fun h v => hold c (xbH h) v) B (cOf f)) $$ Hx
    icases Hx with ⟨Hx, Hxb⟩
    iapply (wp_takeBlock m K c (oOf f) (cOf f) (B (cOf f)) k) $$ [Hr HO Hx]
    · isplitr; · iexact HR
      isplitl [Hr]; · iexact Hr
      isplitl [HO] <;> iassumption
    iintro ⟨Hr, HO, Hx⟩
    iapply Hk
    isplitl [HO]; · iexact HO
    isplitl [Hr Hrb]
    · rw [← htrue]; iapply Hrb $$ %true; iexact Hr
    iexists (Function.update B (cOf f) (halfV m c (oOf f) (cOf f)))
    isplitr
    · ipureintro
      refine ⟨⟨fun h => absurd h (by omega), fun h => ?_⟩, Function.update_self _ _ _⟩
      have e : (f + 1) / 8 = f / 8 := by omega
      rw [e, ← oOf_eq, ← cOf_eq]; exact Function.update_self _ _ _
    · rw [halfV_rcv m c _ _ hne]
      iapply Hxb; iexact Hx
  · rw [if_neg ha]
    have ht : taken f = taken (f + 1) := by
      funext p
      unfold taken
      have := bOf_ge p
      exact decide_eq_decide.mpr (by omega)
    iapply Hk
    isplitl [HO]; · iexact HO
    isplitl [Hr]; · rw [← ht]; iexact Hr
    iexists B
    isplitr
    · ipureintro
      have hc : B (cOf f) = halfV m c (oOf f) (cOf f) := by
        rw [oOf_eq, cOf_eq]
        by_cases h0 : f % 8 = 0
        · have hlt : f < 16 := by omega
          rw [oB_own ⟨f / 8, h8⟩ (by show f / 8 < 2; omega)]; exact hB.1 hlt _
        · exact hB.2 h0
      refine ⟨⟨fun h => hB.1 (by omega), fun h => ?_⟩, hc⟩
      have e : (f + 1) / 8 = f / 8 := by omega
      rw [e, ← oOf_eq, ← cOf_eq]; exact hc
    · iexact Hx

/-- The product of a step, put into its tile. -/
theorem wp_product (f : ℕ) (hf : f < 64) (k : Tile F → Pg F) :
    iprop(hold c (wbS (sOf f)) (wAt m c f) ∗ hold c (xbH (cOf f)) (halfV m c (oOf f) (cOf f)) ∗ (∃ A, ⌜accOk m c f A⌝ ∗ accs c A))
      ⊢ iprop((iprop(hold c (wbS (sOf f)) (wAt m c f) ∗ hold c (xbH (cOf f)) (halfV m c (oOf f) (cOf f))
            ∗ (∃ A, ⌜accOk m c (f + 1) A⌝ ∗ accs c A)) -∗ WP c (k (tileV m c (tOf f) (f / 8))) Q) -∗ WP c (product f k) Q) := by
  have hnext (A : Fin 8 → Tile F) (hA : accOk m c f A) :
      accOk m c (f + 1) (Function.update A (tOf f) (tileV m c (tOf f) (f / 8))) := by
    intro t ht
    by_cases h : t = tOf f
    · subst h
      rw [Function.update_self]
      congr 1
      have : (tOf f).val = f % 8 := rfl
      omega
    · rw [Function.update_of_ne h]
      have hne : t.val ≠ f % 8 := fun h' => h (Fin.ext h')
      have := t.isLt
      rw [hA t (by omega)]
      congr 1
      omega
  unfold product accs
  iintro ⟨Hw, Hx, %A, %hA, HA⟩ Hk
  iapply (wp_loadXb c (cOf f) (halfV m c (oOf f) (cOf f))) $$ Hx
  iintro Hx
  iapply (wp_loadWb c (sOf f) (wAt m c f)) $$ Hw
  iintro Hw
  ihave HA := (bigSep_upd (F := F) (fun t v => hold c (accT t) v) A (tOf f)) $$ HA
  icases HA with ⟨Ha, HAb⟩
  by_cases h8 : f < 8
  · have e : mm (halfV m c (oOf f) (cOf f)) (wSlotV (wAt m c f)) = tileV m c (tOf f) (f / 8) := by
      unfold wAt
      rw [oOf_eq, cOf_eq, Nat.div_eq_of_lt h8]; rfl
    rw [if_pos h8, keep_eq, e]
    iapply (wp_loadAcc c (tOf f) (A (tOf f))) $$ Ha
    iintro Ha
    iapply (wp_storeAcc c (tOf f) (A (tOf f))) $$ Ha
    iintro Ha
    iapply Hk
    isplitl [Hw]; · iexact Hw
    isplitl [Hx]; · iexact Hx
    iexists (Function.update A (tOf f) (tileV m c (tOf f) (f / 8)))
    isplitr; · ipureintro; exact hnext A hA
    iapply HAb; iexact Ha
  · have e : addMm (halfV m c (oOf f) (cOf f)) (wSlotV (wAt m c f)) (A (tOf f)) = tileV m c (tOf f) (f / 8) := by
      have ht : (tOf f).val = f % 8 := rfl
      obtain ⟨n, hn⟩ : ∃ n, f / 8 = n + 1 := ⟨f / 8 - 1, by omega⟩
      have hidx : (f + 7 - (tOf f).val) / 8 - 1 = n := by omega
      unfold wAt
      rw [hA (tOf f) (by omega), hidx, oOf_eq, cOf_eq, hn]; rfl
    rw [if_neg h8]
    iapply (wp_loadAcc c (tOf f) (A (tOf f))) $$ Ha
    iintro Ha
    iapply (wp_loadAcc c (tOf f) (A (tOf f))) $$ Ha
    iintro Ha
    rw [keep_eq, e]
    iapply (wp_storeAcc c (tOf f) (A (tOf f))) $$ Ha
    iintro Ha
    iapply Hk
    isplitl [Hw]; · iexact Hw
    isplitl [Hx]; · iexact Hx
    iexists (Function.update A (tOf f) (tileV m c (tOf f) (f / 8)))
    isplitr; · ipureintro; exact hnext A hA
    iapply HAb; iexact Ha

theorem sOf_add3 (f : ℕ) : sOf (f + 3) = sOf f := Fin.ext (Nat.add_mod_right f 3)

theorem wp_aheadW (f : ℕ) (k : Pg F) :
    wFree m c (sOf (f + 2)) ⊢ iprop((wSlot m c (f + 2) -∗ WP c k Q) -∗ WP c (aheadW c f k) Q) := by
  unfold aheadW wSlot
  by_cases h : f + 2 < 64
  · rw [if_pos h, if_pos h]; exact wp_startW m c (f + 2) k
  · rw [if_neg h, if_neg h]
    iintro H Hk
    iapply Hk; iexact H

theorem wp_step (f : ℕ) (hf : f < 64) (k : Tile F → Pg F) :
    iprop(recs m K ∗ Inv m c f) ⊢ iprop((Inv m c (f + 1) -∗ WP c (k (tileV m c (tOf f) (f / 8))) Q) -∗ WP c (step c f k) Q) := by
  unfold Inv step
  iintro ⟨#HR, HO, Hw0, Hw1, Hw2, Hr, Hx, HA⟩ Hk
  iapply (wp_arrive m K c f hf) $$ [HO Hr Hx]
  · isplitr; · iexact HR
    isplitl [HO]; · iexact HO
    isplitl [Hr] <;> iassumption
  iintro ⟨HO, Hr, %B, %hB, Hx⟩
  iapply (wp_aheadW m c f) $$ Hw2
  iintro Hw2
  ihave Hw0 := (Entails.of_eq (show wSlot m c f = wFly m c f from if_pos hf)) $$ Hw0
  iapply (wp_waitW m K c f) $$ [Hw0 HO]
  · isplitr; · iexact HR
    isplitl [Hw0] <;> iassumption
  iintro ⟨Hb, Hv, Ht, HO⟩
  unfold xbs
  ihave Hx := (bigSep_upd (F := F) (fun h v => hold c (xbH h) v) B (cOf f)) $$ Hx
  icases Hx with ⟨Hx, Hxb⟩
  have eB : Function.update B (cOf f) (halfV m c (oOf f) (cOf f)) = B := by rw [← hB.2]; exact Function.update_eq_self _ _
  rw [hB.2]
  iapply (wp_product m c f hf) $$ [Hb Hx HA]
  · isplitl [Hb]; · iexact Hb
    isplitl [Hx]; · iexact Hx
    iexact HA
  iintro ⟨Hb, Hx, HA⟩
  iapply Hk
  isplitl [HO]; · iexact HO
  isplitl [Hw1]; · iexact Hw1
  isplitl [Hw2]; · iexact Hw2
  isplitl [Hb Hv Ht]
  · rw [show f + 1 + 2 = f + 3 from rfl, sOf_add3]
    unfold wFree
    isplitl [Hb]; · iexists (wAt m c f); iexact Hb
    isplitl [Hv] <;> iassumption
  isplitl [Hr]; · iexact Hr
  isplitl [Hx Hxb]
  · iexists B
    isplitr; · ipureintro; exact hB.1
    iapply (Entails.of_eq (congrArg (fun B => bigSep Finset.univ fun h => hold (F := F) c (xbH h) (B h)) eB))
    iapply Hxb $$ %(halfV m c (oOf f) (cOf f)); iexact Hx
  iexact HA

/-- The running maximum kept through a step. -/
theorem maxV_step (f : ℕ) (hf : f < 64) :
    (if f < 56 then maxV m c (f - 56) else maxAbs (maxV m c (f - 56)) (tileV m c (tOf f) (f / 8))) = maxV m c (f + 1 - 56) := by
  by_cases h : f < 56
  · rw [if_pos h, show f - 56 = 0 by omega, show f + 1 - 56 = 0 by omega]
  · rw [if_neg h]
    obtain ⟨n, hn⟩ : ∃ n, f = 56 + n := ⟨f - 56, by omega⟩
    have hn8 : n < 8 := by omega
    rw [show f + 1 - 56 = n + 1 by omega, show f - 56 = n by omega, show f / 8 = 7 by omega]
    have : tOf f = ⟨n % 8, Nat.mod_lt _ (by decide)⟩ := Fin.ext (by show f % 8 = n % 8; omega)
    rw [this]; rfl

theorem wp_steps (k : F .f32 → Pg F) (n : ℕ) : ∀ f, f + n = 64 →
    iprop(recs m K ∗ Inv m c f) ⊢ iprop((Inv m c 64 -∗ WP c (k (amaxV m c)) Q) -∗ WP c (steps c n f (maxV m c (f - 56)) k) Q) := by
  induction n with
  | zero =>
    intro f hf
    obtain rfl : f = 64 := by omega
    iintro ⟨-, HI⟩ Hk
    iapply Hk; iexact HI
  | succ n ih =>
    intro f hf
    unfold steps
    iintro ⟨#HR, HI⟩ Hk
    iapply (wp_step m K c f (by omega)) $$ [HI]
    · isplitr; · iexact HR
      iexact HI
    iintro HI
    rw [maxV_step m c f (by omega)]
    iapply (ih (f + 1) (by omega)) $$ [HI]
    · isplitr; · iexact HR
      iexact HI
    iexact Hk

end Cert.KernelIdeal.Own

end
-- ==== Proof.Pieces.lean ====
/-
  Buffers cut into the pieces the program works on, and put together again.
-/
module

public import proofs.«01_k».proof.Proof.Own

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD} {sp : Space} {s : Shape} {e : EltTy}

/-! ## Slices of slices -/

/-- A slice of a slice is the slice at the sum of the two offsets. -/
theorem part_unit_unit (m : Memref sig .tc sp s e) {off sz off' sz' off'' : Fin s.rank → ℕ} {inb inb' inb''} (hr) (hr') (hr'')
    (h : ∀ a, off'' a = off a + off' a) (q : PosShare TreeShare) (X : (⟨s.rank, sz'⟩ : Shape).Idx → Elt F e) :
    part c ((m.slice (Rect.unit (s := s) off sz inb) hr).slice (Rect.unit (s := ⟨s.rank, sz⟩) off' sz' inb') hr') q X
      = part c (m.slice (Rect.unit (s := s) off'' sz' inb'') hr'') q X := by
  have hemb (j : (⟨s.rank, sz'⟩ : Shape).Idx) : (Rect.unit (s := s) off sz inb).emb ((Rect.unit (s := ⟨s.rank, sz⟩) off' sz' inb').emb j)
      = (Rect.unit (s := s) off'' sz' inb'').emb j := by
    funext a
    apply Fin.ext
    simp only [Rect.emb_apply, Rect.off_unit, Rect.stride_unit, Nat.one_mul]
    rw [h]; omega
  have hset : ((m.slice (Rect.unit (s := s) off sz inb) hr).slice (Rect.unit (s := ⟨s.rank, sz⟩) off' sz' inb') hr').view.set
      = (m.slice (Rect.unit (s := s) off'' sz' inb'') hr'').view.set := by
    show Finset.univ.map _ = Finset.univ.map _
    exact congrArg (fun g => Finset.univ.map g) (Function.Embedding.ext fun j => congrArg m.view.emb (hemb j))
  have hread (f : m.view.ty.Contents (Elt F)) :
      ((m.slice (Rect.unit (s := s) off sz inb) hr).slice (Rect.unit (s := ⟨s.rank, sz⟩) off' sz' inb') hr').view.read (Elt F) f
      = (m.slice (Rect.unit (s := s) off'' sz' inb'') hr'').view.read (Elt F) f := by
    funext j
    exact congrArg (m.view.read (Elt F) f) (hemb j)
  unfold part owns
  refine congrArg (BIBase.exists (PROP := sProp 𝕄)) (funext fun f => ?_)
  have h₂ : (iprop(((m.slice (Rect.unit (s := s) off sz inb) hr).slice (Rect.unit (s := ⟨s.rank, sz⟩) off' sz' inb') hr').view.loc (c : Thread nD τ)
        ↦[((m.slice (Rect.unit (s := s) off sz inb) hr).slice (Rect.unit (s := ⟨s.rank, sz⟩) off' sz' inb') hr').view.set]{q} f) : sProp 𝕄)
      = iprop((m.slice (Rect.unit (s := s) off'' sz' inb'') hr'').view.loc (c : Thread nD τ)
        ↦[(m.slice (Rect.unit (s := s) off'' sz' inb'') hr'').view.set]{q} f) := by rw [hset]
  exact congr (congrArg (fun p z => (iprop(⌜p⌝ ∗ z) : sProp 𝕄)) (congrArg (· = X) (hread f))) h₂

/-- The slice that is everything. -/
theorem part_unit_full (m : Memref sig .tc sp s e) {off : Fin s.rank → ℕ} {inb} (hr)
    (h : ∀ a, off a = 0) (q : PosShare TreeShare) (X : s.Idx → Elt F e) :
    part c (m.slice (Rect.unit (s := s) off s.size inb) hr) q X = part c m q X := by
  have hemb (j : s.Idx) : (Rect.unit (s := s) off s.size inb).emb j = j := by
    funext a
    apply Fin.ext
    simp only [Rect.emb_apply, Rect.off_unit, Rect.stride_unit, Nat.one_mul]
    rw [h, Nat.zero_add]
  have hset : (m.slice (Rect.unit (s := s) off s.size inb) hr).view.set = m.view.set := by
    show Finset.univ.map _ = Finset.univ.map _
    exact congrArg (fun g => Finset.univ.map g) (Function.Embedding.ext fun j => congrArg m.view.emb (hemb j))
  have hread (f : m.view.ty.Contents (Elt F)) :
      (m.slice (Rect.unit (s := s) off s.size inb) hr).view.read (Elt F) f = m.view.read (Elt F) f := by
    funext j
    exact congrArg (m.view.read (Elt F) f) (hemb j)
  unfold part owns
  refine congrArg (BIBase.exists (PROP := sProp 𝕄)) (funext fun f => ?_)
  have h₂ : (iprop((m.slice (Rect.unit (s := s) off s.size inb) hr).view.loc (c : Thread nD τ)
        ↦[(m.slice (Rect.unit (s := s) off s.size inb) hr).view.set]{q} f) : sProp 𝕄)
      = iprop(m.view.loc (c : Thread nD τ) ↦[m.view.set]{q} f) := by rw [hset]
  exact congr (congrArg (fun p z => (iprop(⌜p⌝ ∗ z) : sProp 𝕄)) (congrArg (· = X) (hread f))) h₂

/-! ## Cutting and gluing along rectangles -/

section Cut

variable {T : Type} [Fintype T] [DecidableEq T] (m : Memref sig .tc sp s e) (q : PosShare TreeShare)
  (r : T → Rect s) (hr : ∀ t a, (r t).stride a = 1) (hd : ∀ t t', t ≠ t' → Disjoint (r t).set (r t').set)
  (hcov : (Finset.univ : Finset T).biUnion (fun t => (r t).set) = Finset.univ)
include hd hcov

theorem cut (X : s.Idx → Elt F e) :
    part c m q X ⊢ bigSep Finset.univ fun t => part c (m.slice (r t) (hr t)) q (fun j => X ((r t).emb j)) :=
  owns_rects (c : Thread nD τ) m q r hr hd hcov X

/-- The whole which the pieces of a family are the parts of. -/
theorem exists_glue (A : (t : T) → (r t).shape.Idx → Elt F e) (d : Elt F e) : ∃ X : s.Idx → Elt F e, ∀ t j, X ((r t).emb j) = A t j := by
  have hinj : Function.Injective (fun p : (t : T) × (r t).shape.Idx => (r p.1).emb p.2) := by
    rintro ⟨t, j⟩ ⟨t', j'⟩ h
    have ht : t = t' := by
      by_contra hne
      refine Finset.disjoint_left.mp (hd t t' hne) ((r t).idx_mem j) ?_
      have h' : (r t).emb j = (r t').emb j' := h
      show (r t).emb j ∈ _
      rw [h']; exact (r t').idx_mem j'
    subst ht
    exact congrArg (fun j => (⟨t, j⟩ : (t : T) × (r t).shape.Idx)) ((r t).emb.injective h)
  exact ⟨Function.extend (fun p : (t : T) × (r t).shape.Idx => (r p.1).emb p.2) (fun p => A p.1 p.2) (fun _ => d),
    fun t j => hinj.extend_apply _ _ (⟨t, j⟩ : (t : T) × (r t).shape.Idx)⟩

theorem glue (A : (t : T) → (r t).shape.Idx → Elt F e) :
    (bigSep Finset.univ fun t => part c (m.slice (r t) (hr t)) q (A t))
      ⊢ iprop(∃ X, ⌜∀ t j, X ((r t).emb j) = A t j⌝ ∗ part c m q X) := by
  obtain ⟨X, hX⟩ := exists_glue r hd hcov A (Classical.arbitrary _)
  have e : A = fun t j => X ((r t).emb j) := by funext t j; exact (hX t j).symm
  have h : (bigSep Finset.univ fun t => part c (m.slice (r t) (hr t)) q (fun j => X ((r t).emb j))) ⊢ part (F := F) c m q X :=
    owns_of_rects (c : Thread nD τ) m q r hr hd hcov X
  rw [e]
  iintro H
  iexists X
  isplitr; · ipureintro; exact fun t j => rfl
  iapply h; iexact H

end Cut

/-- Pieces each holding something, together hold some family. -/
theorem bigSep_pick {I : Type} [Fintype I] [DecidableEq I] {X : I → Type} [∀ i, Nonempty (X i)] (Φ : (i : I) → X i → sProp 𝕄) :
    (bigSep Finset.univ fun i => iprop(∃ v, Φ i v)) ⊢ iprop(∃ A : (i : I) → X i, bigSep Finset.univ fun i => Φ i (A i)) :=
  bigSep_exists_pi _ _

/-! ## The families of rectangles -/

theorem tileR_disj : ∀ t t', t ≠ t' → Disjoint (tileR t).set (tileR t').set := fun t t' h =>
  Rect.unit_disjoint (s := S1024x8192) 1 (by
    have : t.val ≠ t'.val := fun h' => h (Fin.ext h')
    show 1024 * t.val + 1024 ≤ 1024 * t'.val ∨ 1024 * t'.val + 1024 ≤ 1024 * t.val
    omega)
theorem tileR_cov : (Finset.univ : Finset (Fin 8)).biUnion (fun t => (tileR t).set) = Finset.univ := by
  refine Finset.eq_univ_of_forall fun i => ?_
  have h0 : (i 0).val < 1024 := (i 0).isLt
  have h1 : (i 1).val < 8192 := (i 1).isLt
  refine Finset.mem_biUnion.mpr ⟨⟨(i 1).val / 1024, by omega⟩, Finset.mem_univ _, Rect.mem_set_unit.mpr (Fin.forall_fin_two.mpr ⟨?_, ?_⟩)⟩
  · show 0 ≤ (i 0).val ∧ (i 0).val < 0 + 1024; omega
  · show 1024 * ((i 1).val / 1024) ≤ (i 1).val ∧ (i 1).val < 1024 * ((i 1).val / 1024) + 1024; omega

theorem halfR_disj : ∀ t t', t ≠ t' → Disjoint (halfR t).set (halfR t').set := fun t t' h =>
  Rect.unit_disjoint (s := S1024x1024) 1 (by
    have : t.val ≠ t'.val := fun h' => h (Fin.ext h')
    show 512 * t.val + 512 ≤ 512 * t'.val ∨ 512 * t'.val + 512 ≤ 512 * t.val
    omega)
theorem halfR_cov : (Finset.univ : Finset (Fin 2)).biUnion (fun t => (halfR t).set) = Finset.univ := by
  refine Finset.eq_univ_of_forall fun i => ?_
  have h0 : (i 0).val < 1024 := (i 0).isLt
  have h1 : (i 1).val < 1024 := (i 1).isLt
  refine Finset.mem_biUnion.mpr ⟨⟨(i 1).val / 512, by omega⟩, Finset.mem_univ _, Rect.mem_set_unit.mpr (Fin.forall_fin_two.mpr ⟨?_, ?_⟩)⟩
  · show 0 ≤ (i 0).val ∧ (i 0).val < 0 + 1024; omega
  · show 512 * ((i 1).val / 512) ≤ (i 1).val ∧ (i 1).val < 512 * ((i 1).val / 512) + 512; omega

theorem slotR_disj : ∀ t t', t ≠ t' → Disjoint (slotR t).set (slotR t').set := fun t t' h =>
  Rect.unit_disjoint (s := S3x1024x1024) 0 (by
    have : t.val ≠ t'.val := fun h' => h (Fin.ext h')
    show t.val + 1 ≤ t'.val ∨ t'.val + 1 ≤ t.val
    omega)
theorem slotR_cov : (Finset.univ : Finset (Fin 3)).biUnion (fun t => (slotR t).set) = Finset.univ := by
  refine Finset.eq_univ_of_forall fun i => ?_
  have h0 : (i 0).val < 3 := (i 0).isLt
  have h1 : (i 1).val < 1024 := (i 1).isLt
  have h2 : (i 2).val < 1024 := (i 2).isLt
  refine Finset.mem_biUnion.mpr ⟨⟨(i 0).val, h0⟩, Finset.mem_univ _, Rect.mem_set_unit.mpr ?_⟩
  intro a
  match a with
  | 0 => show (i 0).val ≤ (i 0).val ∧ (i 0).val < (i 0).val + 1; omega
  | 1 => show 0 ≤ (i 1).val ∧ (i 1).val < 0 + 1024; omega
  | 2 => show 0 ≤ (i 2).val ∧ (i 2).val < 0 + 1024; omega

theorem sliceR_disj : ∀ t t' : Fin 3 × Fin 2, t ≠ t' → Disjoint (sliceR t.1 t.2).set (sliceR t'.1 t'.2).set := fun t t' h => by
  by_cases h1 : t.1 = t'.1
  · refine Rect.unit_disjoint (s := S3x1024x1024) 2 ?_
    have : t.2.val ≠ t'.2.val := fun h' => h (Prod.ext h1 (Fin.ext h'))
    show 512 * t.2.val + 512 ≤ 512 * t'.2.val ∨ 512 * t'.2.val + 512 ≤ 512 * t.2.val
    omega
  · refine Rect.unit_disjoint (s := S3x1024x1024) 0 ?_
    have : t.1.val ≠ t'.1.val := fun h' => h1 (Fin.ext h')
    show t.1.val + 1 ≤ t'.1.val ∨ t'.1.val + 1 ≤ t.1.val
    omega
theorem sliceR_cov : (Finset.univ : Finset (Fin 3 × Fin 2)).biUnion (fun t => (sliceR t.1 t.2).set) = Finset.univ := by
  refine Finset.eq_univ_of_forall fun i => ?_
  have h0 : (i 0).val < 3 := (i 0).isLt
  have h1 : (i 1).val < 1024 := (i 1).isLt
  have h2 : (i 2).val < 1024 := (i 2).isLt
  refine Finset.mem_biUnion.mpr ⟨(⟨(i 0).val, h0⟩, ⟨(i 2).val / 512, by omega⟩), Finset.mem_univ _, Rect.mem_set_unit.mpr ?_⟩
  intro a
  match a with
  | 0 => show (i 0).val ≤ (i 0).val ∧ (i 0).val < (i 0).val + 1; omega
  | 1 => show 0 ≤ (i 1).val ∧ (i 1).val < 0 + 1024; omega
  | 2 => show 512 * ((i 2).val / 512) ≤ (i 2).val ∧ (i 2).val < 512 * ((i 2).val / 512) + 512; omega

theorem wbR_disj : ∀ t t', t ≠ t' → Disjoint (wbR t).set (wbR t').set := fun t t' h =>
  Rect.unit_disjoint (s := S3x512x1024) 0 (by
    have : t.val ≠ t'.val := fun h' => h (Fin.ext h')
    show t.val + 1 ≤ t'.val ∨ t'.val + 1 ≤ t.val
    omega)
theorem wbR_cov : (Finset.univ : Finset (Fin 3)).biUnion (fun t => (wbR t).set) = Finset.univ := by
  refine Finset.eq_univ_of_forall fun i => ?_
  have h0 : (i 0).val < 3 := (i 0).isLt
  have h1 : (i 1).val < 512 := (i 1).isLt
  have h2 : (i 2).val < 1024 := (i 2).isLt
  refine Finset.mem_biUnion.mpr ⟨⟨(i 0).val, h0⟩, Finset.mem_univ _, Rect.mem_set_unit.mpr ?_⟩
  intro a
  match a with
  | 0 => show (i 0).val ≤ (i 0).val ∧ (i 0).val < (i 0).val + 1; omega
  | 1 => show 0 ≤ (i 1).val ∧ (i 1).val < 0 + 512; omega
  | 2 => show 0 ≤ (i 2).val ∧ (i 2).val < 0 + 1024; omega

theorem allR_disj : ∀ t t', t ≠ t' → Disjoint (allR t).set (allR t').set := fun t t' h =>
  Rect.unit_disjoint (s := S4x8x128) 0 (by
    have : t.val ≠ t'.val := fun h' => h (Fin.ext h')
    show t.val + 1 ≤ t'.val ∨ t'.val + 1 ≤ t.val
    omega)
theorem allR_cov : (Finset.univ : Finset (Fin 4)).biUnion (fun t => (allR t).set) = Finset.univ := by
  refine Finset.eq_univ_of_forall fun i => ?_
  have h0 : (i 0).val < 4 := (i 0).isLt
  have h1 : (i 1).val < 8 := (i 1).isLt
  have h2 : (i 2).val < 128 := (i 2).isLt
  refine Finset.mem_biUnion.mpr ⟨⟨(i 0).val, h0⟩, Finset.mem_univ _, Rect.mem_set_unit.mpr ?_⟩
  intro a
  match a with
  | 0 => show (i 0).val ≤ (i 0).val ∧ (i 0).val < (i 0).val + 1; omega
  | 1 => show 0 ≤ (i 1).val ∧ (i 1).val < 0 + 8; omega
  | 2 => show 0 ≤ (i 2).val ∧ (i 2).val < 0 + 128; omega

end Cert.KernelIdeal.Own

end
-- ==== Proof.Prologue.lean ====
/-
  What a device does before the first step: it meets the others at the barrier, and sends each of them, by
  halves, the block of `x` which that one computes with.
-/
module

public import proofs.«01_k».proof.Proof.Loop
public import proofs.«01_k».proof.Proof.Pieces

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)
variable (c : Dev nD) {Q : PUnit.{1} → sProp (MT nD τ sig Unit (Elt F) ℕ UU ℕ)}

/-! ## Families written out -/

theorem bigSep_two (Φ : Fin 2 → sProp 𝕄) : bigSep Finset.univ Φ = iprop(Φ 0 ∗ Φ 1) := bigSep_univ_eq_bigSepL [0, 1] (by decide) (by decide) Φ
theorem bigSep_three (Φ : Fin 3 → sProp 𝕄) : bigSep Finset.univ Φ = iprop(Φ 0 ∗ Φ 1 ∗ Φ 2) := bigSep_univ_eq_bigSepL [0, 1, 2] (by decide) (by decide) Φ

/-! ## The places to send into -/

/-- The half slot at the device `1 + i` places on, to be sent into. -/
def place (i : Fin 3) (h : Fin 2) : sProp 𝕄 := iprop(∃ v, hold (F := F) (pl c i) (xgH (Fin.rev i) h) v)
/-- The row of maxima there. -/
def placeA (i : Fin 3) : sProp 𝕄 := iprop(∃ v, hold (F := F) (pl c i) (allJ (Fin.rev i).succ) v)

theorem bar_pays : bigSep Finset.univ (pay m c .bar) ⊢ bigSep Finset.univ fun i => iprop(place (F := F) c i 0 ∗ place c i 1 ∗ placeA c i) := by
  rw [bigSep_univ_equiv Fin.revPerm (pay m c .bar)]
  refine bigSep_mono fun i _ => ?_
  unfold place placeA
  show iprop((∃ v, hold (pl c (Fin.rev (Fin.rev i))) (xgH (Fin.rev i) 0) v) ∗ (∃ v, hold (pl c (Fin.rev (Fin.rev i))) (xgH (Fin.rev i) 1) v)
    ∗ (∃ v, hold (pl c (Fin.rev (Fin.rev i))) (allJ (Fin.rev i).succ) v)) ⊢ _
  rw [Fin.rev_rev]

/-! ## The staged block -/

/-- The share of `x` the staging reads through, and the one the own block is read through. -/
def xTok (j : Fin 2) : sProp 𝕄 := part c xM (Transfers.shareTok fullShare 2 j) (xv m c)

/-- What the staging of a block works with. -/
def stg : sProp 𝕄 :=
  iprop(xTok m c 1 ∗ semVal ((c : Thread nD τ), SemLoc.dma stageS) 0 ∗ (∃ A, accs (F := F) c A))

theorem slot_there (j : S1x1024x512.Idx) : j = Shape.reshapeEquiv squeezes_S1x1024x512_S1024x512.numel_eq
    (Shape.reshapeEquiv squeezes_S1x1024x512_S1024x512.numel_eq.symm j) := by
  rw [Shape.reshapeEquiv_reshapeEquiv, Shape.reshapeEquiv_self]

theorem xs_halves (i : Fin 3) (v : Tile F) :
    hold c (xsM.slice (slotR i) (fun _ => rfl)) (narrow v)
      ⊢ bigSep Finset.univ fun h => hold c (xsH i h) (fun j => narrow v ((hR h).emb (Shape.reshapeEquiv squeezes_S1x1024x512_S1024x512.numel_eq j))) := by
  have hd : ∀ t t', t ≠ t' → Disjoint (hR t).set (hR t').set := fun t t' h =>
    Rect.unit_disjoint (s := S1x1024x1024) 2 (by
      have : t.val ≠ t'.val := fun h' => h (Fin.ext h')
      show 512 * t.val + 512 ≤ 512 * t'.val ∨ 512 * t'.val + 512 ≤ 512 * t.val
      omega)
  have hcov : (Finset.univ : Finset (Fin 2)).biUnion (fun t => (hR t).set) = Finset.univ := by
    refine Finset.eq_univ_of_forall fun i => ?_
    have h0 : (i 0).val < 1 := (i 0).isLt
    have h1 : (i 1).val < 1024 := (i 1).isLt
    have h2 : (i 2).val < 1024 := (i 2).isLt
    refine Finset.mem_biUnion.mpr ⟨⟨(i 2).val / 512, by omega⟩, Finset.mem_univ _, Rect.mem_set_unit.mpr ?_⟩
    intro a
    match a with
    | 0 => show 0 ≤ (i 0).val ∧ (i 0).val < 0 + 1; omega
    | 1 => show 0 ≤ (i 1).val ∧ (i 1).val < 0 + 1024; omega
    | 2 => show 512 * ((i 2).val / 512) ≤ (i 2).val ∧ (i 2).val < 512 * ((i 2).val / 512) + 512; omega
  refine BIBase.Entails.trans (cut (xsM.slice (slotR i) (fun _ => rfl)) fullShare hR (fun _ _ => rfl) hd hcov (narrow v)) ?_
  refine bigSep_mono fun h _ => (show (part c ((xsM.slice (slotR i) (fun _ => rfl)).slice (hR h) (fun _ => rfl)) fullShare (fun j => narrow v ((hR h).emb j)))
    ⊢ hold c (xsH i h) (fun j => narrow v ((hR h).emb (Shape.reshapeEquiv squeezes_S1x1024x512_S1024x512.numel_eq j))) from Entails.of_eq ?_)
  have e1 : part c ((xsM.slice (slotR i) (fun _ => rfl)).slice (hR h) (fun _ => rfl)) fullShare (fun j => narrow v ((hR h).emb j))
      = part c (xsM.slice (sliceR i h) (fun _ => rfl)) fullShare (fun j => narrow v ((hR h).emb j)) :=
    part_unit_unit (s := S3x1024x1024) xsM (fun _ => rfl) (fun _ => rfl) (fun _ => rfl)
      (fun a => match a with
        | 0 => rfl
        | 1 => rfl
        | 2 => (Nat.zero_add _).symm) fullShare _
  rw [e1]
  have e2 := part_squeeze (F := F) (c := c) (xsM.slice (sliceR i h) (fun _ => rfl)) squeezes_S1x1024x512_S1024x512 fullShare
    (fun j => narrow v ((hR h).emb (Shape.reshapeEquiv squeezes_S1x1024x512_S1024x512.numel_eq j)))
  exact Eq.trans (congrArg (part c (xsM.slice (sliceR i h) (fun _ => rfl)) fullShare)
    (funext fun j => congrArg (fun z => narrow v ((hR h).emb z)) (slot_there j))) e2.symm

/-- What the sending of a block starts from. -/
def sendPre (i : Fin 3) : sProp 𝕄 :=
  iprop((∃ v, hold (F := F) c (xsM.slice (slotR i) (fun _ => rfl)) v) ∗ (tok c (.snd i 0) 0 ∗ tok (pl c i) (.rcv (Fin.rev i) 0) 0)
    ∗ (tok c (.snd i 1) 0 ∗ tok (pl c i) (.rcv (Fin.rev i) 1) 0))

theorem wp_sendBlock (i : Fin 3) (l : List DK) (k : Pg F) :
    iprop(recs m K ∗ sendPre c i ∗ place c i 0 ∗ place c i 1 ∗ stg m c ∗ owing c (owe c (.rcv i 0 :: .rcv i 1 :: l)))
      ⊢ iprop((iprop(crd c (.snd i 0) ∗ crd c (.snd i 1) ∗ stg m c ∗ owing c (owe c l)) -∗ WP c k Q) -∗ WP c (sendBlock c i k) Q) := by
  unfold sendPre stg xTok place sendBlock accs
  iintro ⟨#HR, ⟨⟨%v, Hs⟩, ⟨Ht0, Ht0'⟩, ⟨Ht1, Ht1'⟩⟩, Hp0, Hp1, ⟨Hx, Hv, %A, HA⟩, HO⟩ Hk
  ihave Hx := (part_lend (F := F) (c := c) xM (xOutR c i) (fun _ => rfl) (Transfers.shareTok fullShare 2 1) (xv m c)) $$ Hx
  icases Hx with ⟨Hx, Hback⟩
  ihave HA := (bigSep_upd (F := F) (fun t v => hold c (accT t) v) A 7) $$ HA
  icases HA with ⟨Ha, HAb⟩
  iapply (wp_startP (F := F) (c := c) (src := xOut c i) (dst := accT 7) (sem := stageS) (q := Transfers.shareTok fullShare 2 1)
    (hsrc := View.wordExact_bits rfl) (hdst := View.wordExact_bits rfl) (hsem := ⟨Or.inl rfl, trivial⟩)
    (X := xOutV m c i) (Y := A 7) (View.dmaCredit_pos _ (by decide))) $$ [Hx Ha Hv]
  · isplitl [Hx]; · iexact Hx
    isplitl [Ha] <;> iassumption
  iintro HF
  iapply (wp_awaitP (F := F) (c := c) (sem := stageS) (srcw := xOut c i) (dstw := accT 7) (hsrc := View.wordExact_bits rfl)
    (hdst := View.wordExact_bits rfl) (O := owe c (.rcv i 0 :: .rcv i 1 :: l)) rfl) $$ [HF HO]
  · isplitl [HF]; · iexact HF
    isplitl [HO]; · iexact HO
    iapply (mayWait_local c (.dma stageS) (.rcv i 0 :: .rcv i 1 :: l) local_stageS (fun d _ => owed_pos d))
    iapply (recs_levs m K); iexact HR
  iintro ⟨⟨Ha, Hx⟩, Hv, HO⟩
  iapply (wp_loadAcc c 7 (xOutV m c i)) $$ Ha
  iintro Ha
  iapply (wp_loadP (m := xsM) (r := slotR i) (hr := fun _ => rfl) (q := fullShare) (X := v)) $$ Hs
  iintro Hs
  iapply (wp_storeP (m := xsM) (r := slotR i) (hr := fun _ => rfl) (w := narrow (xOutV m c i)) (X := v)) $$ Hs
  iintro Hs
  ihave Hs := (xs_halves (F := F) c i (xOutV m c i)) $$ Hs
  ihave Hs := (Entails.of_eq (bigSep_two (F := F) _)) $$ Hs
  icases Hs with ⟨Hs0, Hs1⟩
  iapply (wp_sendX m K c i 0 (.rcv i 1 :: l)) $$ [Hs0 Hp0 HO Ht0 Ht0']
  · isplitr; · iexact HR
    isplitl [Hs0]; · iexact Hs0
    isplitl [Hp0]; · iexact Hp0
    isplitl [HO]; · iexact HO
    isplitl [Ht0] <;> iassumption
  iintro ⟨Hc0, HO⟩
  iapply (wp_sendX m K c i 1 l) $$ [Hs1 Hp1 HO Ht1 Ht1']
  · isplitr; · iexact HR
    isplitl [Hs1]; · iexact Hs1
    isplitl [Hp1]; · iexact Hp1
    isplitl [HO]; · iexact HO
    isplitl [Ht1] <;> iassumption
  iintro ⟨Hc1, HO⟩
  iapply Hk
  isplitl [Hc0]; · iexact Hc0
  isplitl [Hc1]; · iexact Hc1
  isplitl [Hback Hx Hv Ha HAb]
  · isplitl [Hback Hx]; · iapply Hback; iexact Hx
    isplitl [Hv]; · iexact Hv
    iexists (Function.update A 7 (xOutV m c i))
    iapply HAb; iexact Ha
  iexact HO

/-! ## The whole of it -/

/-- What a signal to the device `1 + i` places on takes. -/
def sigPre (i : Fin 3) : sProp 𝕄 :=
  iprop(tok (F := F) (pl c i) .bar i ∗ (∃ v, hold (F := F) c (xgH i 0) v) ∗ (∃ v, hold (F := F) c (xgH i 1) v) ∗ (∃ v, hold (F := F) c (allJ i.succ) v))

/-- What a device starts from, up to its first step, -/
def ProPre : sProp 𝕄 :=
  iprop(owing c (O₀ c) ∗ (bigSep Finset.univ fun i => sigPre c i) ∗ (crd c .bar ∗ pos c .bar) ∗ (bigSep Finset.univ fun s => wFree m c s)
    ∗ (xTok m c 0 ∗ semVal ((c : Thread nD τ), SemLoc.dma locS) 0 ∗ (∃ v, hold (F := F) c xbM v)) ∗ stg m c
    ∗ (bigSep Finset.univ fun i => sendPre c i))

/-- and what it has then. -/
def ProPost : sProp 𝕄 :=
  iprop(owing c (owe c owedA) ∗ zero c .bar ∗ wFly m c 0 ∗ wFly m c 1 ∗ wFree m c 2
    ∗ (xTok m c 0 ∗ semVal ((c : Thread nD τ), SemLoc.dma locS) 0 ∗ xbs c (fun h => halfV m c 0 h)) ∗ stg m c
    ∗ (bigSep Finset.univ fun i => placeA c i) ∗ (bigSep Finset.univ fun i => iprop(crd c (.snd i 0) ∗ crd c (.snd i 1))))

theorem xb_halves : hold c xbM (xOwnV m c) ⊢ xbs (F := F) c (fun h => halfV m c 0 h) := by
  unfold xbs
  refine BIBase.Entails.trans (cut xbM fullShare halfR (fun _ _ => rfl) halfR_disj halfR_cov (xOwnV m c)) ?_
  exact bigSep_mono fun h _ => (show hold c (xbM.slice (halfR h) (fun _ => rfl)) (fun j => xOwnV m c ((halfR h).emb j)) ⊢ hold c (xbH h) (halfV m c 0 h)
    from Entails.of_eq (by rw [halfV_own]; rfl))

theorem wp_prologue (k : Dev nD → Pg F) :
    iprop(recs m K ∗ ProPre m c) ⊢ iprop((ProPost m c -∗ WP c (k c) Q) -∗ WP c (prologue k) Q) := by
  unfold ProPre prologue
  rw [bigSep_three (F := F) (fun i => sigPre c i), bigSep_three (F := F) (fun i => sendPre c i), bigSep_three (F := F) (fun s => wFree m c s)]
  unfold sigPre
  iintro ⟨#HR, HO, ⟨⟨Ht0, Hs0⟩, ⟨Ht1, Hs1⟩, ⟨Ht2, Hs2⟩⟩, ⟨Hcb, Hpb⟩, ⟨Hw0, Hw1, Hw2⟩, ⟨Hx, Hv, %v, Hb⟩, Hst, ⟨Hd0, Hd1, Hd2⟩⟩ Hk
  iapply (Entails.of_eq (wp_deviceId (defs := defs₀ (F := F)) (𝒱 := 𝒱₀) (c := (c : Thread nD τ)) (bd := none) (E := Set.univ)).symm)
  iapply (wp_signalP m K c 0 ([.bar 1, .bar 2] ++ owedX)) $$ [HO Ht0 Hs0]
  · isplitr; · iexact HR
    isplitl [HO]; · iexact HO
    isplitl [Ht0]; · iexact Ht0
    iexact Hs0
  iintro HO
  iapply (wp_signalP m K c 1 (.bar 2 :: owedX)) $$ [HO Ht1 Hs1]
  · isplitr; · iexact HR
    isplitl [HO]; · iexact HO
    isplitl [Ht1]; · iexact Ht1
    iexact Hs1
  iintro HO
  iapply (wp_signalP m K c 2 owedX) $$ [HO Ht2 Hs2]
  · isplitr; · iexact HR
    isplitl [HO]; · iexact HO
    isplitl [Ht2]; · iexact Ht2
    iexact Hs2
  iintro HO
  iapply (wp_waitBar m K c) $$ [HO Hcb Hpb]
  · isplitr; · iexact HR
    isplitl [Hcb]; · iexact Hcb
    isplitl [HO] <;> iassumption
  iintro ⟨HO, Hz, Hpay⟩
  ihave Hpay := (bar_pays (F := F) m c) $$ Hpay
  ihave Hpay := (Entails.of_eq (bigSep_three (F := F) _)) $$ Hpay
  icases Hpay with ⟨⟨Hp00, Hp01, Hq0⟩, ⟨Hp10, Hp11, Hq1⟩, ⟨Hp20, Hp21, Hq2⟩⟩
  ihave Hw0 := (show wFree m c 0 ⊢ wFree m c (sOf 0) from .rfl) $$ Hw0
  iapply (wp_startW m c 0) $$ Hw0
  iintro Hw0
  ihave Hw1 := (show wFree m c 1 ⊢ wFree m c (sOf 1) from .rfl) $$ Hw1
  iapply (wp_startW m c 1) $$ Hw1
  iintro Hw1
  unfold xTok
  ihave Hx := (part_lend (F := F) (c := c) xM (xOwnR c) (fun _ => rfl) (Transfers.shareTok fullShare 2 0) (xv m c)) $$ Hx
  icases Hx with ⟨Hx, Hback⟩
  iapply (wp_startP (F := F) (c := c) (src := xOwn c) (dst := xbM) (sem := locS) (q := Transfers.shareTok fullShare 2 0)
    (hsrc := View.wordExact_bits rfl) (hdst := xbW.wordExact) (hsem := ⟨Or.inl rfl, trivial⟩)
    (X := xOwnV m c) (Y := v) (View.dmaCredit_pos _ (by decide))) $$ [Hx Hb Hv]
  · isplitl [Hx]; · iexact Hx
    isplitl [Hb] <;> iassumption
  iintro HF
  iapply (wp_sendBlock m K c 0 ([.rcv 2 0, .rcv 2 1, .rcv 1 0, .rcv 1 1] ++ owedA)) $$ [Hd0 Hp00 Hp01 Hst HO]
  · isplitr; · iexact HR
    isplitl [Hd0]; · iexact Hd0
    isplitl [Hp00]; · iexact Hp00
    isplitl [Hp01]; · iexact Hp01
    isplitl [Hst]; · iexact Hst
    iexact HO
  iintro ⟨Hc00, Hc01, Hst, HO⟩
  iapply (wp_sendBlock m K c 2 ([.rcv 1 0, .rcv 1 1] ++ owedA)) $$ [Hd2 Hp20 Hp21 Hst HO]
  · isplitr; · iexact HR
    isplitl [Hd2]; · iexact Hd2
    isplitl [Hp20]; · iexact Hp20
    isplitl [Hp21]; · iexact Hp21
    isplitl [Hst]; · iexact Hst
    iexact HO
  iintro ⟨Hc20, Hc21, Hst, HO⟩
  iapply (wp_sendBlock m K c 1 owedA) $$ [Hd1 Hp10 Hp11 Hst HO]
  · isplitr; · iexact HR
    isplitl [Hd1]; · iexact Hd1
    isplitl [Hp10]; · iexact Hp10
    isplitl [Hp11]; · iexact Hp11
    isplitl [Hst]; · iexact Hst
    iexact HO
  iintro ⟨Hc10, Hc11, Hst, HO⟩
  iapply (wp_awaitP (F := F) (c := c) (sem := locS) (srcw := xOwn c) (dstw := xbM) (hsrc := View.wordExact_bits rfl)
    (hdst := xbW.wordExact) (O := owe c owedA) rfl) $$ [HF HO]
  · isplitl [HF]; · iexact HF
    isplitl [HO]; · iexact HO
    iapply (mayWait_local c (.dma locS) owedA local_locS (fun d _ => owed_pos d))
    iapply (recs_levs m K); iexact HR
  iintro ⟨⟨Hb, Hx⟩, Hv, HO⟩
  iapply Hk
  unfold ProPost xTok
  rw [bigSep_three (F := F) (fun i => placeA c i), bigSep_three (F := F) (fun i => iprop(crd c (.snd i 0) ∗ crd c (.snd i 1)))]
  isplitl [HO]; · iexact HO
  isplitl [Hz]; · iexact Hz
  isplitl [Hw0]; · iexact Hw0
  isplitl [Hw1]; · iexact Hw1
  isplitl [Hw2]; · iexact Hw2
  isplitl [Hx Hback Hv Hb]
  · isplitl [Hx Hback]; · iapply Hback; iexact Hx
    isplitl [Hv]; · iexact Hv
    iapply (xb_halves (F := F) m c); iexact Hb
  isplitl [Hst]; · iexact Hst
  isplitl [Hq0 Hq1 Hq2]
  · isplitl [Hq0]; · iexact Hq0
    isplitl [Hq1] <;> iassumption
  isplitl [Hc00 Hc01]
  · isplitl [Hc00] <;> iassumption
  isplitl [Hc10 Hc11]
  · isplitl [Hc10] <;> iassumption
  isplitl [Hc20] <;> iassumption

end Cert.KernelIdeal.Own

end
-- ==== Proof.Epilogue.lean ====
/-
  What a device does after the last step: it gathers the maxima of all devices, quantises its tiles with the
  scale they give and writes them out, and awaits its own sends.
-/
module

public import proofs.«01_k».proof.Proof.Prologue

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)
variable (c : Dev nD) {Q : PUnit.{1} → sProp (MT nD τ sig Unit (Elt F) ℕ UU ℕ)}

/-! ## A buffer read through several shares -/

theorem whole_split (b : Ref sig .tc) (n : ℕ) (f : b.ty.Contents (Elt F)) :
    hold c (Memref.whole b) f ⊢ iprop(part c (Memref.whole b) (Transfers.shareDrop fullShare n) f
      ∗ bigSep Finset.univ fun i : Fin n => part c (Memref.whole b) (Transfers.shareTok fullShare n i) f) := by
  simp only [part, hold, owns_whole]
  exact Transfers.pointsTo_toks_split fullShare n
theorem whole_join (b : Ref sig .tc) (n : ℕ) (f : b.ty.Contents (Elt F)) :
    iprop(part c (Memref.whole b) (Transfers.shareDrop fullShare n) f
      ∗ bigSep Finset.univ fun i : Fin n => part c (Memref.whole b) (Transfers.shareTok fullShare n i) f) ⊢ hold c (Memref.whole b) f := by
  simp only [part, hold, owns_whole]
  exact Transfers.pointsTo_toks_join fullShare n

/-! ## Gathering the maxima -/

theorem my_whole (q : PosShare TreeShare) (v : Vec F S8x128 .f32) : part (F := F) c (myM.slice myR (fun _ => rfl)) q v = part c myM q v :=
  part_unit_full (s := S8x128) myM (fun _ => rfl) (Fin.forall_fin_two.mpr ⟨rfl, rfl⟩) q v
theorem my_hold (v : Vec F S8x128 .f32) : hold (F := F) c (myM.slice myR (fun _ => rfl)) v = hold c myM v := my_whole c fullShare v
theorem my_split (v : Vec F S8x128 .f32) :
    hold c myM v ⊢ iprop(part c myM (Transfers.shareDrop fullShare 3) v ∗ bigSep Finset.univ fun i => part c myM (myShare i) v) :=
  whole_split c cc0_scratch5 3 v
theorem my_join (v : Vec F S8x128 .f32) :
    iprop(part c myM (Transfers.shareDrop fullShare 3) v ∗ bigSep Finset.univ fun i => part c myM (myShare i) v) ⊢ hold c myM v :=
  whole_join c cc0_scratch5 3 v
theorem all_whole (v : Vec F S4x8x128 .f32) : hold (F := F) c (allM.slice allFullR (fun _ => rfl)) v = hold c allM v :=
  part_unit_full (s := S4x8x128) allM (fun _ => rfl) (fun a => match a with | 0 => rfl | 1 => rfl | 2 => rfl) fullShare v
/-- A row of maxima as the buffer of all of them holds it. -/
def rowV (v : Vec F S8x128 .f32) : Vec F S1x8x128 .f32 := fun j => v (Shape.reshapeEquiv squeezes_S1x8x128_S8x128.numel_eq.symm j)
theorem asRow_eq (v : Vec F S8x128 .f32) : asRow v = rowV v := rfl
theorem allJ_hold (j : Fin 4) (v : Vec F S8x128 .f32) :
    hold (F := F) c (allJ j) v = hold c (allM.slice (allR j) (fun _ => rfl)) (rowV v) :=
  part_squeeze (allM.slice (allR j) (fun _ => rfl)) squeezes_S1x8x128_S8x128 fullShare v

theorem wp_loadMy (v : Vec F S8x128 .f32) (k : Vec F S8x128 .f32 → Pg F) :
    hold c myM v ⊢ iprop((hold c myM v -∗ WP c (k v) Q) -∗ WP c (.op (.load myM myR.toLoadRect (View.loadsAt_vmem h_S8x128)) k) Q) := by
  rw [← my_hold]
  exact wp_loadP (m := myM) (r := myR) (hr := fun _ => rfl)
theorem wp_storeMy (v w : Vec F S8x128 .f32) (k : Pg F) :
    hold c myM v ⊢ iprop((hold c myM w -∗ WP c k Q)
      -∗ WP c (.op (.store myM myR w Finset.univ (View.stores_vmem_bits_univ h_S8x128 rfl) (.inl rfl)) fun _ => k) Q) := by
  rw [← my_hold, ← my_hold]
  exact wp_storeP (m := myM) (r := myR) (hr := fun _ => rfl) (k := fun _ => k)
theorem wp_loadRow (v : Vec F S8x128 .f32) (k : Vec F S1x8x128 .f32 → Pg F) :
    hold c (allJ 0) v ⊢ iprop((hold c (allJ 0) v -∗ WP c (k (rowV v)) Q)
      -∗ WP c (.op (.load allM (allR 0).toLoadRect (View.loadsAt_vmem h_S1x8x128)) k) Q) := by
  rw [allJ_hold]
  exact wp_loadP (m := allM) (r := allR 0) (hr := fun _ => rfl)
theorem wp_storeRow (v w : Vec F S8x128 .f32) (k : Pg F) :
    hold c (allJ 0) v ⊢ iprop((hold c (allJ 0) w -∗ WP c k Q)
      -∗ WP c (.op (.store allM (allR 0) (asRow w) Finset.univ (View.stores_vmem_bits_univ h_S1x8x128 rfl) (.inl rfl)) fun _ => k) Q) := by
  rw [allJ_hold, allJ_hold, asRow_eq]
  exact wp_storeP (m := allM) (r := allR 0) (hr := fun _ => rfl) (k := fun _ => k)
theorem wp_loadAll (v : Vec F S4x8x128 .f32) (k : Vec F S4x8x128 .f32 → Pg F) :
    hold c allM v ⊢ iprop((hold c allM v -∗ WP c (k v) Q)
      -∗ WP c (.op (.load allM allFullR.toLoadRect (View.loadsAt_vmem h_S4x8x128)) k) Q) := by
  rw [← all_whole]
  exact wp_loadP (m := allM) (r := allFullR) (hr := fun _ => rfl)

/-- The rows gathered are the maxima of all devices. -/
theorem all_join :
    iprop(hold c (allJ 0) (splat (amaxV m c)) ∗ hold c (allJ 1) (splat (amaxV m (pl c 0))) ∗ hold c (allJ 2) (splat (amaxV m (pl c 1)))
      ∗ hold c (allJ 3) (splat (amaxV m (pl c 2)))) ⊢ hold c allM (allV m c) := by
  have h : (bigSep Finset.univ fun j => part c (allM.slice (allR j) (fun _ => rfl)) fullShare (fun i => allV m c ((allR j).emb i))) ⊢ hold (F := F) c allM (allV m c) :=
    owns_of_rects (c : Thread nD τ) allM fullShare allR (fun _ _ => rfl) allR_disj allR_cov (allV m c)
  have hr (j : Fin 4) (d : Dev nD) (hd : d.val = (c.val + j.val) % 4) : hold (F := F) c (allJ j) (splat (amaxV m d))
      = part c (allM.slice (allR j) (fun _ => rfl)) fullShare (fun i => allV m c ((allR j).emb i)) := by
    rw [allJ_hold]
    refine congrArg (part c (allM.slice (allR j) (fun _ => rfl)) fullShare) (funext fun i => ?_)
    show amaxV m d = amaxV m _
    refine congrArg (amaxV m) (Fin.ext ?_)
    have h0 : (i 0).val < 1 := (i 0).isLt
    have e : (((allR j).emb i) 0).val = j.val := by
      show j.val + 1 * (i 0).val = j.val; omega
    show d.val = (c.val + (((allR j).emb i) 0).val) % 4
    rw [e, hd]
  rw [bigSep_univ_eq_bigSepL [0, 1, 2, 3] (by decide) (by decide)] at h
  rw [hr 0 c (by have := c.isLt; show c.val = (c.val + 0) % 4; exact (Nat.mod_eq_of_lt this).symm), hr 1 (pl c 0) rfl, hr 2 (pl c 1) rfl, hr 3 (pl c 2) rfl]
  exact h

/-- What the exchange of the maxima with the devices `1 + i` places on and back starts from. -/
def maxPre (i : Fin 3) : sProp 𝕄 :=
  iprop((placeA (F := F) c i ∗ tok (F := F) c (.asnd i) 0 ∗ tok (F := F) (pl c i) (.arcv (Fin.rev i)) 0) ∗ crd (F := F) c (.arcv i) ∗ pos (F := F) c (.arcv i))

theorem wp_gather (k : Vec F S4x8x128 .f32 → Pg F) :
    iprop(recs m K ∗ owing c (owe c owedA) ∗ (∃ v, hold c myM v) ∗ (∃ v, hold c (allJ 0) v) ∗ bigSep Finset.univ fun i => maxPre c i)
      ⊢ iprop((iprop(owing c (owe c []) ∗ part c myM (Transfers.shareDrop fullShare 3) (splat (amaxV m c)) ∗ hold c allM (allV m c)
          ∗ bigSep Finset.univ fun i => iprop(crd c (.asnd i) ∗ zero c (.arcv i))) -∗ WP c (k (allV m c)) Q)
        -∗ WP c (gather c (amaxV m c) k) Q) := by
  unfold gather
  rw [bigSep_three (F := F) (fun i => maxPre c i), bigSep_three (F := F) (fun i => iprop(crd c (.asnd i) ∗ zero c (.arcv i)))]
  unfold maxPre placeA
  iintro ⟨#HR, HO, ⟨%v, Hm⟩, ⟨%w, Ha⟩, ⟨⟨Hp0, Hs0, Ht0⟩, Hc0, Hq0⟩, ⟨⟨Hp1, Hs1, Ht1⟩, Hc1, Hq1⟩, ⟨⟨Hp2, Hs2, Ht2⟩, Hc2, Hq2⟩⟩ Hk
  iapply (wp_loadMy c v) $$ Hm
  iintro Hm
  iapply (wp_storeMy c v (splat (amaxV m c))) $$ Hm
  iintro Hm
  iapply (wp_loadMy c (splat (amaxV m c))) $$ Hm
  iintro Hm
  iapply (wp_loadRow c w) $$ Ha
  iintro Ha
  iapply (wp_storeRow c w (splat (amaxV m c))) $$ Ha
  iintro Ha
  ihave Hm := (my_split (F := F) c (splat (amaxV m c))) $$ Hm
  icases Hm with ⟨Hm, Hms⟩
  ihave Hms := (Entails.of_eq (bigSep_three (F := F) _)) $$ Hms
  icases Hms with ⟨Hm0, Hm1, Hm2⟩
  iapply (wp_sendA m K c 0 [.arcv 2, .arcv 1]) $$ [HO Hm0 Hp0 Hs0 Ht0]
  · isplitr; · iexact HR
    isplitl [Hm0]; · iexact Hm0
    isplitl [Hp0]; · iexact Hp0
    isplitl [HO]; · iexact HO
    isplitl [Hs0]; · iexact Hs0
    iexact Ht0
  iintro ⟨Hd0, HO⟩
  iapply (wp_sendA m K c 2 [.arcv 1]) $$ [HO Hm2 Hp2 Hs2 Ht2]
  · isplitr; · iexact HR
    isplitl [Hm2]; · iexact Hm2
    isplitl [Hp2]; · iexact Hp2
    isplitl [HO]; · iexact HO
    isplitl [Hs2]; · iexact Hs2
    iexact Ht2
  iintro ⟨Hd2, HO⟩
  iapply (wp_sendA m K c 1 []) $$ [HO Hm1 Hp1 Hs1 Ht1]
  · isplitr; · iexact HR
    isplitl [Hm1]; · iexact Hm1
    isplitl [Hp1]; · iexact Hp1
    isplitl [HO]; · iexact HO
    isplitl [Hs1]; · iexact Hs1
    iexact Ht1
  iintro ⟨Hd1, HO⟩
  iapply (wp_waitA m K c 0) $$ [HO Hc0 Hq0]
  · isplitr; · iexact HR
    isplitl [Hc0]; · iexact Hc0
    isplitl [HO] <;> iassumption
  iintro ⟨HO, Hz0, Ha0⟩
  iapply (wp_waitA m K c 1) $$ [HO Hc1 Hq1]
  · isplitr; · iexact HR
    isplitl [Hc1]; · iexact Hc1
    isplitl [HO] <;> iassumption
  iintro ⟨HO, Hz1, Ha1⟩
  iapply (wp_waitA m K c 2) $$ [HO Hc2 Hq2]
  · isplitr; · iexact HR
    isplitl [Hc2]; · iexact Hc2
    isplitl [HO] <;> iassumption
  iintro ⟨HO, Hz2, Ha2⟩
  ihave Ha := (all_join (F := F) m c) $$ [Ha Ha0 Ha1 Ha2]
  · isplitl [Ha]; · iexact Ha
    isplitl [Ha0]; · iexact Ha0
    isplitl [Ha1]; · iexact Ha1
    iexact Ha2
  iapply (wp_loadAll c (allV m c)) $$ Ha
  iintro Ha
  iapply Hk
  isplitl [HO]; · iexact HO
  isplitl [Hm]; · iexact Hm
  isplitl [Ha]; · iexact Ha
  isplitl [Hd0 Hz0]
  · isplitl [Hd0] <;> iassumption
  isplitl [Hd1 Hz1]
  · isplitl [Hd1] <;> iassumption
  isplitl [Hd2] <;> iassumption

/-! ## Writing the tiles out -/

abbrev outSm (t : Fin 8) : DmaSem sig := outS ⟨t.val % 2, Nat.mod_lt _ (by decide)⟩
def outZero (s : Fin 2) : sProp 𝕄 := semVal ((c : Thread nD τ), SemLoc.dma (outS s)) 0
/-- A tile on its way out, -/
def outFly (t : Fin 8) : sProp 𝕄 :=
  Transfers.Flight EC (c : Thread nD τ) (.dma (outSm t)) () (outT t).view.dmaCredit
    iprop(hold c (outT t) (outV m c t) ∗ hold c (accT t) (outV m c t))
/-- before, -/
def outPre (t : Fin 8) : sProp 𝕄 := iprop(hold c (accT t) (fullV m c t) ∗ (∃ v, hold (F := F) c (outT t) v))
/-- and after. -/
def outDone (t : Fin 8) : sProp 𝕄 := iprop(hold c (outT t) (outV m c t) ∗ hold c (accT t) (outV m c t))

theorem wp_startOut (t : Fin 8) (k : Pg F) :
    iprop(hold c (accT t) (outV m c t) ∗ (∃ v, hold (F := F) c (outT t) v) ∗ outZero c ⟨t.val % 2, Nat.mod_lt _ (by decide)⟩)
      ⊢ iprop((outFly m c t -∗ WP c k Q) -∗ WP c (startOut t k) Q) := by
  unfold outZero outFly startOut
  iintro ⟨Ha, ⟨%v, Ho⟩, Hv⟩ Hk
  iapply (wp_startP (F := F) (c := c) (src := accT t) (dst := outT t) (sem := outSm t) (q := fullShare)
    (hsrc := View.wordExact_bits rfl) (hdst := View.wordExact_bits rfl) (hsem := ⟨Or.inl rfl, trivial⟩)
    (k := fun _ => k) (X := outV m c t) (Y := v) (View.dmaCredit_pos _ (by decide))) $$ [Ha Ho Hv]
  · isplitl [Ha]; · iexact Ha
    isplitl [Ho] <;> iassumption
  iexact Hk

theorem wp_waitOut (t : Fin 8) (k : Pg F) :
    iprop(recs m K ∗ outFly m c t ∗ owing c (owe c []))
      ⊢ iprop((iprop(outDone m c t ∗ outZero c ⟨t.val % 2, Nat.mod_lt _ (by decide)⟩ ∗ owing c (owe c [])) -∗ WP c k Q) -∗ WP c (waitOut t k) Q) := by
  unfold outZero outFly outDone waitOut
  iintro ⟨#HR, HF, HO⟩ Hk
  iapply (wp_awaitP (F := F) (c := c) (sem := outSm t) (srcw := accT t) (dstw := outT t) (hsrc := View.wordExact_bits rfl)
    (hdst := View.wordExact_bits rfl) (k := fun _ => k) (O := owe c []) rfl) $$ [HF HO]
  · isplitl [HF]; · iexact HF
    isplitl [HO]; · iexact HO
    iapply (mayWait_local c (.dma (outSm t)) [] (local_outS _) (fun d _ => owed_pos d))
    iapply (recs_levs m K); iexact HR
  iexact Hk

/-- The first two tiles start out at once; -/
theorem wp_quantFirst (t : Fin 8) (ht : ¬ 2 ≤ t.val) (k : Pg F) :
    iprop(outPre m c t ∗ outZero c ⟨t.val % 2, Nat.mod_lt _ (by decide)⟩)
      ⊢ iprop((outFly m c t -∗ WP c k Q) -∗ WP c (quantTile (scaleV m c) t k) Q) := by
  unfold quantTile outPre
  rw [dif_neg ht]
  iintro ⟨⟨Ha, Ho⟩, Hv⟩ Hk
  iapply (wp_loadAcc c t (fullV m c t)) $$ Ha
  iintro Ha
  iapply (wp_loadAcc c t (fullV m c t)) $$ Ha
  iintro Ha
  iapply (wp_storeAcc c t (fullV m c t)) $$ Ha
  iintro Ha
  iapply (wp_startOut m c t k) $$ [Ha Ho Hv]
  · isplitl [Ha]; · iexact Ha
    isplitl [Ho] <;> iassumption
  iexact Hk

/-- a later one when the one before the last is out. -/
theorem wp_quantNext (t t' : Fin 8) (ht : t.val = t'.val + 2) (k : Pg F) :
    iprop(recs m K ∗ outPre m c t ∗ outFly m c t' ∗ owing c (owe c []))
      ⊢ iprop((iprop(outFly m c t ∗ outDone m c t' ∗ owing c (owe c [])) -∗ WP c k Q) -∗ WP c (quantTile (scaleV m c) t k) Q) := by
  unfold quantTile outPre
  have h2 : 2 ≤ t.val := by omega
  have e : (⟨t.val - 2, by omega⟩ : Fin 8) = t' := Fin.ext (by show t.val - 2 = t'.val; omega)
  have e' : (⟨t'.val % 2, Nat.mod_lt _ (by decide)⟩ : Fin 2) = ⟨t.val % 2, Nat.mod_lt _ (by decide)⟩ := Fin.ext (by show t'.val % 2 = t.val % 2; omega)
  rw [dif_pos h2, e]
  iintro ⟨#HR, ⟨Ha, Ho⟩, HF, HO⟩ Hk
  iapply (wp_loadAcc c t (fullV m c t)) $$ Ha
  iintro Ha
  iapply (wp_loadAcc c t (fullV m c t)) $$ Ha
  iintro Ha
  iapply (wp_storeAcc c t (fullV m c t)) $$ Ha
  iintro Ha
  iapply (wp_waitOut m K c t') $$ [HF HO]
  · isplitr; · iexact HR
    isplitl [HF] <;> iassumption
  iintro ⟨Hd, Hv, HO⟩
  iapply (wp_startOut m c t k) $$ [Ha Ho Hv]
  · isplitl [Ha]; · iexact Ha
    isplitl [Ho]; · iexact Ho
    rw [← e']; iexact Hv
  iintro HF
  iapply Hk
  isplitl [HF]; · iexact HF
  isplitl [Hd] <;> iassumption

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem wp_quantTiles (k : Pg F) :
    iprop(recs m K ∗ owing c (owe c []) ∗ (bigSep Finset.univ fun t => outPre m c t) ∗ outZero c 0 ∗ outZero c 1)
      ⊢ iprop((iprop(owing c (owe c []) ∗ (bigSep Finset.univ fun t => outDone m c t) ∗ outZero c 0 ∗ outZero c 1) -∗ WP c k Q)
        -∗ WP c (quantTiles (scaleV m c) k) Q) := by
  unfold quantTiles
  rw [bigSep_eight (F := F) (fun t => outPre m c t), bigSep_eight (F := F) (fun t => outDone m c t)]
  iintro ⟨#HR, HO, ⟨H0, H1, H2, H3, H4, H5, H6, H7⟩, Hz0, Hz1⟩ Hk
  iapply (wp_quantFirst m c 0 (by decide)) $$ [H0 Hz0]
  · isplitl [H0]; · iexact H0
    iexact Hz0
  iintro H0
  iapply (wp_quantFirst m c 1 (by decide)) $$ [H1 Hz1]
  · isplitl [H1]; · iexact H1
    iexact Hz1
  iintro H1
  iapply (wp_quantNext m K c 2 0 rfl) $$ [H2 H0 HO]
  · isplitr; · iexact HR
    isplitl [H2]; · iexact H2
    isplitl [H0] <;> iassumption
  iintro ⟨H2, H0, HO⟩
  iapply (wp_quantNext m K c 3 1 rfl) $$ [H3 H1 HO]
  · isplitr; · iexact HR
    isplitl [H3]; · iexact H3
    isplitl [H1] <;> iassumption
  iintro ⟨H3, H1, HO⟩
  iapply (wp_quantNext m K c 4 2 rfl) $$ [H4 H2 HO]
  · isplitr; · iexact HR
    isplitl [H4]; · iexact H4
    isplitl [H2] <;> iassumption
  iintro ⟨H4, H2, HO⟩
  iapply (wp_quantNext m K c 5 3 rfl) $$ [H5 H3 HO]
  · isplitr; · iexact HR
    isplitl [H5]; · iexact H5
    isplitl [H3] <;> iassumption
  iintro ⟨H5, H3, HO⟩
  iapply (wp_quantNext m K c 6 4 rfl) $$ [H6 H4 HO]
  · isplitr; · iexact HR
    isplitl [H6]; · iexact H6
    isplitl [H4] <;> iassumption
  iintro ⟨H6, H4, HO⟩
  iapply (wp_quantNext m K c 7 5 rfl) $$ [H7 H5 HO]
  · isplitr; · iexact HR
    isplitl [H7]; · iexact H7
    isplitl [H5] <;> iassumption
  iintro ⟨H7, H5, HO⟩
  iapply (wp_waitOut m K c 6) $$ [H6 HO]
  · isplitr; · iexact HR
    isplitl [H6] <;> iassumption
  iintro ⟨H6, Hz0, HO⟩
  iapply (wp_waitOut m K c 7) $$ [H7 HO]
  · isplitr; · iexact HR
    isplitl [H7] <;> iassumption
  iintro ⟨H7, Hz1, HO⟩
  iapply Hk
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  isplitl [Hz0]; · iexact Hz0
  iexact Hz1

/-! ## Awaiting the own sends -/

/-- What the last waits take, -/
def drainPre (i : Fin 3) : sProp 𝕄 :=
  iprop((crd (F := F) c (.snd i 0) ∗ pos (F := F) c (.snd i 0)) ∗ (crd (F := F) c (.snd i 1) ∗ pos (F := F) c (.snd i 1)) ∗ (crd (F := F) c (.asnd i) ∗ pos (F := F) c (.asnd i)))
/-- and give. -/
def drainPost (i : Fin 3) : sProp 𝕄 :=
  iprop((zero (F := F) c (.snd i 0) ∗ hold c (xsH i 0) (sentV m c i 0)) ∗ (zero (F := F) c (.snd i 1) ∗ hold c (xsH i 1) (sentV m c i 1))
    ∗ (zero (F := F) c (.asnd i) ∗ part c myM (myShare i) (splat (amaxV m c))))

theorem wp_drain :
    iprop(recs m K ∗ owing c (owe c []) ∗ bigSep Finset.univ fun i => drainPre c i)
      ⊢ iprop((iprop(owing c (owe c []) ∗ bigSep Finset.univ fun i => drainPost m c i) -∗ Q ⟨⟩) -∗ WP c (drain (F := F)) Q) := by
  unfold drain
  rw [bigSep_three (F := F) (fun i => drainPre c i), bigSep_three (F := F) (fun i => drainPost m c i)]
  unfold drainPre drainPost
  iintro ⟨#HR, HO, ⟨⟨Hc00, Hp00⟩, ⟨Hc01, Hp01⟩, ⟨Hd0, Hq0⟩⟩, ⟨⟨Hc10, Hp10⟩, ⟨Hc11, Hp11⟩, ⟨Hd1, Hq1⟩⟩, ⟨⟨Hc20, Hp20⟩, ⟨Hc21, Hp21⟩, ⟨Hd2, Hq2⟩⟩⟩ Hk
  iapply (wp_drainX m K c 0 0) $$ [HO Hc00 Hp00]
  · isplitr; · iexact HR
    isplitl [Hc00]; · iexact Hc00
    isplitl [HO] <;> iassumption
  iintro ⟨HO, H00⟩
  iapply (wp_drainX m K c 0 1) $$ [HO Hc01 Hp01]
  · isplitr; · iexact HR
    isplitl [Hc01]; · iexact Hc01
    isplitl [HO] <;> iassumption
  iintro ⟨HO, H01⟩
  iapply (wp_drainX m K c 2 0) $$ [HO Hc20 Hp20]
  · isplitr; · iexact HR
    isplitl [Hc20]; · iexact Hc20
    isplitl [HO] <;> iassumption
  iintro ⟨HO, H20⟩
  iapply (wp_drainX m K c 2 1) $$ [HO Hc21 Hp21]
  · isplitr; · iexact HR
    isplitl [Hc21]; · iexact Hc21
    isplitl [HO] <;> iassumption
  iintro ⟨HO, H21⟩
  iapply (wp_drainX m K c 1 0) $$ [HO Hc10 Hp10]
  · isplitr; · iexact HR
    isplitl [Hc10]; · iexact Hc10
    isplitl [HO] <;> iassumption
  iintro ⟨HO, H10⟩
  iapply (wp_drainX m K c 1 1) $$ [HO Hc11 Hp11]
  · isplitr; · iexact HR
    isplitl [Hc11]; · iexact Hc11
    isplitl [HO] <;> iassumption
  iintro ⟨HO, H11⟩
  iapply (wp_drainA m K c 0) $$ [HO Hd0 Hq0]
  · isplitr; · iexact HR
    isplitl [Hd0]; · iexact Hd0
    isplitl [HO] <;> iassumption
  iintro ⟨HO, H0⟩
  iapply (wp_drainA m K c 2) $$ [HO Hd2 Hq2]
  · isplitr; · iexact HR
    isplitl [Hd2]; · iexact Hd2
    isplitl [HO] <;> iassumption
  iintro ⟨HO, H2⟩
  iapply (wp_drainA m K c 1) $$ [HO Hd1 Hq1]
  · isplitr; · iexact HR
    isplitl [Hd1]; · iexact Hd1
    isplitl [HO] <;> iassumption
  iintro ⟨HO, H1⟩
  iapply (show iprop(|={Set.univ}=> Q ⟨⟩) ⊢ WP c (.ret ⟨⟩) Q from .rfl)
  imodintro
  iapply Hk
  isplitl [HO]; · iexact HO
  isplitl [H00 H01 H0]
  · isplitl [H00]; · iexact H00
    isplitl [H01] <;> iassumption
  isplitl [H10 H11 H1]
  · isplitl [H10]; · iexact H10
    isplitl [H11] <;> iassumption
  isplitl [H20]; · iexact H20
  isplitl [H21] <;> iassumption

end Cert.KernelIdeal.Own

end
-- ==== Proof.Body.lean ====
/-
  The whole body of the kernel on one device: from everything the launch hands a device to everything it gives
  back, the result computed.
-/
module

public import proofs.«01_k».proof.Proof.Epilogue
public import proofs.«01_k».proof.Proof.Pieces

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)
variable (c : Dev nD) {Q : PUnit.{1} → sProp (MT nD τ sig Unit (Elt F) ℕ UU ℕ)}

theorem same (P : sProp 𝕄) : P ⊢ P := .rfl

/-! ## Buffers of any contents, and their pieces -/

section Any

variable {sp : Space} {s : Shape} {e : EltTy}

/-- Device `c` owns a piece outright, whatever it holds. -/
def any (M : Memref sig .tc sp s e) : sProp 𝕄 := iprop(∃ v, hold (F := F) c M v)

variable {T : Type} [Fintype T] [DecidableEq T] (M : Memref sig .tc sp s e)
  (r : T → Rect s) (hr : ∀ t a, (r t).stride a = 1) (hd : ∀ t t', t ≠ t' → Disjoint (r t).set (r t').set)
  (hcov : (Finset.univ : Finset T).biUnion (fun t => (r t).set) = Finset.univ)
include hd hcov

theorem any_cut : any (F := F) c M ⊢ bigSep Finset.univ fun t => any (F := F) c (M.slice (r t) (hr t)) := by
  unfold any
  iintro ⟨%v, H⟩
  ihave H := (cut (F := F) (c := c) M fullShare r hr hd hcov v) $$ H
  iapply (show (bigSep Finset.univ fun t => part (F := F) c (M.slice (r t) (hr t)) fullShare (fun j => v ((r t).emb j)))
    ⊢ bigSep Finset.univ fun t => iprop(∃ v, hold (F := F) c (M.slice (r t) (hr t)) v) from
      bigSep_mono fun t _ => show part (F := F) c (M.slice (r t) (hr t)) fullShare (fun j => v ((r t).emb j)) ⊢ iprop(∃ v, hold (F := F) c (M.slice (r t) (hr t)) v) from
        (by iintro H; iexists _; iexact H))
  iexact H
theorem any_glue : (bigSep Finset.univ fun t => any (F := F) c (M.slice (r t) (hr t))) ⊢ any (F := F) c M := by
  unfold any
  iintro H
  ihave H := (bigSep_pick (F := F) (fun t v => hold (F := F) c (M.slice (r t) (hr t)) v)) $$ H
  icases H with ⟨%A, H⟩
  ihave H := (glue (F := F) (c := c) M fullShare r hr hd hcov A) $$ H
  icases H with ⟨%X, -, H⟩
  iexists X
  iexact H

theorem any_pick : any (F := F) c M ⊢ iprop(∃ A : (t : T) → (r t).shape.Idx → Elt F e, bigSep Finset.univ fun t => hold c (M.slice (r t) (hr t)) (A t)) := by
  unfold any
  iintro ⟨%v, H⟩
  ihave H := (cut (F := F) (c := c) M fullShare r hr hd hcov v) $$ H
  iexists (fun t j => v ((r t).emb j))
  iexact H

end Any

theorem any_squeeze {sp : Space} {s s' : Shape} {e : EltTy} (M : Memref sig .tc sp s e) (h : s.Squeezes s') :
    any (F := F) c (M.squeeze s' h) = any (F := F) c M := by
  unfold any
  refine BI.Entails.antisymm (show iprop(∃ v, hold (F := F) c (M.squeeze s' h) v) ⊢ iprop(∃ v, hold (F := F) c M v) from ?_)
    (show iprop(∃ v, hold (F := F) c M v) ⊢ iprop(∃ v, hold (F := F) c (M.squeeze s' h) v) from ?_)
  · iintro ⟨%v, H⟩
    iexists _
    iapply (show hold (F := F) c (M.squeeze s' h) v ⊢ hold c M (fun j => v (Shape.reshapeEquiv h.numel_eq.symm j)) from
      Entails.of_eq (part_squeeze (F := F) (c := c) M h fullShare v))
    iexact H
  · iintro ⟨%v, H⟩
    iexists (fun j => v (Shape.reshapeEquiv h.numel_eq j))
    have e : hold (F := F) c M v = hold c (M.squeeze s' h) (fun j => v (Shape.reshapeEquiv h.numel_eq j)) := by
      refine Eq.trans ?_ (part_squeeze (F := F) (c := c) M h fullShare _).symm
      refine congrArg (part c M fullShare) (funext fun j => ?_)
      rw [Shape.reshapeEquiv_reshapeEquiv, Shape.reshapeEquiv_self]
    iapply (show hold (F := F) c M v ⊢ hold c (M.squeeze s' h) (fun j => v (Shape.reshapeEquiv h.numel_eq j)) from Entails.of_eq e)
    iexact H

theorem xsH_any (i : Fin 3) (h : Fin 2) : any (F := F) c (xsH i h) = any c (xsM.slice (sliceR i h) (fun _ => rfl)) :=
  any_squeeze c (xsM.slice (sliceR i h) (fun _ => rfl)) squeezes_S1x1024x512_S1024x512
theorem xgH_any (i : Fin 3) (h : Fin 2) : any (F := F) c (xgH i h) = any c (xgM.slice (sliceR i h) (fun _ => rfl)) :=
  any_squeeze c (xgM.slice (sliceR i h) (fun _ => rfl)) squeezes_S1x1024x512_S1024x512
theorem wbS_any (s : Fin 3) : any (F := F) c (wbS s) = any c (wbM.slice (wbR s) (fun _ => rfl)) :=
  any_squeeze c (wbM.slice (wbR s) (fun _ => rfl)) squeezes_S1x512x1024_S512x1024
theorem allJ_any (j : Fin 4) : any (F := F) c (allJ j) = any c (allM.slice (allR j) (fun _ => rfl)) :=
  any_squeeze c (allM.slice (allR j) (fun _ => rfl)) squeezes_S1x8x128_S8x128

/-- The tiles, -/
theorem acc_cut : any (F := F) c accM ⊢ iprop(∃ A, accs (F := F) c A) := by
  unfold accs
  exact any_pick c accM tileR (fun _ _ => rfl) tileR_disj tileR_cov
theorem out_cut : any (F := F) c outM ⊢ bigSep Finset.univ fun t => any (F := F) c (outT t) :=
  any_cut c outM tileR (fun _ _ => rfl) tileR_disj tileR_cov
theorem acc_glue : (bigSep Finset.univ fun t => any (F := F) c (accT t)) ⊢ any (F := F) c accM :=
  any_glue c accM tileR (fun _ _ => rfl) tileR_disj tileR_cov
/-- the working block, -/
theorem xb_glue : (bigSep Finset.univ fun h => any (F := F) c (xbH h)) ⊢ any (F := F) c xbM :=
  any_glue c xbM halfR (fun _ _ => rfl) halfR_disj halfR_cov
/-- the slots sent from, -/
theorem xs_cut : any (F := F) c xsM ⊢ bigSep Finset.univ fun i => any (F := F) c (xsM.slice (slotR i) (fun _ => rfl)) :=
  any_cut c xsM slotR (fun _ _ => rfl) slotR_disj slotR_cov
theorem xs_glue : (bigSep Finset.univ fun i => iprop(any (F := F) c (xsH i 0) ∗ any c (xsH i 1))) ⊢ any (F := F) c xsM := by
  refine BIBase.Entails.trans ?_ (any_glue (F := F) c xsM (fun p : Fin 3 × Fin 2 => sliceR p.1 p.2) (fun _ _ => rfl) sliceR_disj sliceR_cov)
  rw [bigSep_univ_prod]
  refine bigSep_mono fun i _ => ?_
  rw [bigSep_two]
  rw [xsH_any, xsH_any]
  exact same _
/-- the slots sent into, -/
theorem xg_cut : any (F := F) c xgM ⊢ bigSep Finset.univ fun i => iprop(any (F := F) c (xgH i 0) ∗ any c (xgH i 1)) := by
  refine BIBase.Entails.trans (any_cut (F := F) c xgM (fun p : Fin 3 × Fin 2 => sliceR p.1 p.2) (fun _ _ => rfl) sliceR_disj sliceR_cov) ?_
  rw [bigSep_univ_prod]
  refine bigSep_mono fun i _ => ?_
  rw [bigSep_two]
  rw [xgH_any, xgH_any]
  exact same _
theorem xg_glue : (bigSep Finset.univ fun p : Fin 3 × Fin 2 => any (F := F) c (xgH p.1 p.2)) ⊢ any (F := F) c xgM := by
  refine BIBase.Entails.trans ?_ (any_glue (F := F) c xgM (fun p : Fin 3 × Fin 2 => sliceR p.1 p.2) (fun _ _ => rfl) sliceR_disj sliceR_cov)
  refine bigSep_mono fun p _ => ?_
  rw [xgH_any]
  exact same _
/-- the slots of the weight tiles, -/
theorem wb_cut : any (F := F) c wbM ⊢ bigSep Finset.univ fun i => any (F := F) c (wbS i) := by
  refine BIBase.Entails.trans (any_cut (F := F) c wbM wbR (fun _ _ => rfl) wbR_disj wbR_cov) ?_
  refine bigSep_mono fun p _ => ?_
  rw [wbS_any]
  exact same _
theorem wb_glue : (bigSep Finset.univ fun i => any (F := F) c (wbS i)) ⊢ any (F := F) c wbM := by
  refine BIBase.Entails.trans ?_ (any_glue (F := F) c wbM wbR (fun _ _ => rfl) wbR_disj wbR_cov)
  refine bigSep_mono fun p _ => ?_
  rw [wbS_any]
  exact same _
/-- the rows of maxima. -/
theorem all_cut : any (F := F) c allM ⊢ iprop(any (F := F) c (allJ 0) ∗ bigSep Finset.univ fun i : Fin 3 => any (F := F) c (allJ i.succ)) := by
  refine BIBase.Entails.trans (any_cut (F := F) c allM allR (fun _ _ => rfl) allR_disj allR_cov) ?_
  rw [bigSep_univ_eq_bigSepL [0, 1, 2, 3] (by decide) (by decide), bigSep_three]
  rw [allJ_any, allJ_any, allJ_any, allJ_any]
  exact .rfl

/-! ## What a device starts with and ends with -/

/-- The scratch buffers. -/
def scr : sProp 𝕄 :=
  iprop(any (F := F) c accM ∗ any (F := F) c xsM ∗ any (F := F) c xgM ∗ any (F := F) c xbM ∗ any (F := F) c wbM ∗ any (F := F) c myM ∗ any (F := F) c allM)
/-- The semaphores of the transfers within the device, all at zero. -/
def locals : sProp 𝕄 :=
  iprop((bigSep Finset.univ fun s : Fin 3 => semVal ((c : Thread nD τ), SemLoc.dma (wS s)) 0) ∗ (outZero (F := F) c 0 ∗ outZero (F := F) c 1)
    ∗ semVal ((c : Thread nD τ), SemLoc.dma locS) 0 ∗ semVal ((c : Thread nD τ), SemLoc.dma stageS) 0)
/-- The raises the device makes in its dealings with the one `1 + i` places on. -/
def toks (i : Fin 3) : sProp 𝕄 :=
  iprop(tok (F := F) (pl c i) .bar i
    ∗ ((tok (F := F) c (.snd i 0) 0 ∗ tok (F := F) (pl c i) (.rcv (Fin.rev i) 0) 0) ∗ (tok (F := F) c (.snd i 1) 0 ∗ tok (F := F) (pl c i) (.rcv (Fin.rev i) 1) 0))
    ∗ (tok (F := F) c (.asnd i) 0 ∗ tok (F := F) (pl c i) (.arcv (Fin.rev i)) 0))
/-- The credits for what the others owe it. -/
def crds (i : Fin 3) : sProp 𝕄 := iprop((crd (F := F) c (.rcv i 0) ∗ crd (F := F) c (.rcv i 1)) ∗ crd (F := F) c (.arcv i))

/-- Something of every semaphore of the exchange. -/
def every (Φ : CK → sProp 𝕄) : sProp 𝕄 :=
  iprop(Φ .bar ∗ bigSep Finset.univ fun i => iprop((Φ (.snd i 0) ∗ Φ (.snd i 1)) ∗ (Φ (.rcv i 0) ∗ Φ (.rcv i 1)) ∗ Φ (.asnd i) ∗ Φ (.arcv i)))

theorem sep_reassoc (P Q R : sProp 𝕄) : iprop((P ∗ Q) ∗ R) = iprop(P ∗ Q ∗ R) := equiv_iff.mp ⟨BI.sep_assoc, BI.sep_assoc'⟩

theorem every_eq (Φ : CK → sProp 𝕄) : bigSep Finset.univ Φ = every Φ := by
  unfold every
  rw [bigSep_three, bigSep_univ_eq_bigSepL [.bar, .snd 0 0, .snd 0 1, .rcv 0 0, .rcv 0 1, .asnd 0, .arcv 0, .snd 1 0, .snd 1 1, .rcv 1 0, .rcv 1 1, .asnd 1, .arcv 1,
    .snd 2 0, .snd 2 1, .rcv 2 0, .rcv 2 1, .asnd 2, .arcv 2] (by decide) (by decide)]
  simp only [sep_reassoc]
  rfl

def Pre : sProp 𝕄 :=
  iprop(owing c (O₀ c) ∗ (bigSep Finset.univ fun i => toks (F := F) c i) ∗ every (fun k => pos (F := F) c k)
    ∗ (crd (F := F) c .bar ∗ bigSep Finset.univ fun i => crds (F := F) c i)
    ∗ hold c xM (xv m c) ∗ hold c wM (wv m c) ∗ any (F := F) c outM ∗ scr (F := F) c ∗ locals (F := F) c)

/-- The result array holds its tiles. -/
def outOk (X : S1024x8192.Idx → F .f32) : Prop := ∀ t j, X ((tileR t).emb j) = outV m c t j

def Post : sProp 𝕄 :=
  iprop(owing c (owe c []) ∗ every (fun k => zero (F := F) c k)
    ∗ hold c xM (xv m c) ∗ hold c wM (wv m c) ∗ (∃ X, ⌜outOk m c X⌝ ∗ hold c outM X) ∗ scr (F := F) c ∗ locals (F := F) c)

/-! ## The body -/

theorem inv_start : iprop(owing c (owe c owedA) ∗ wFly m c 0 ∗ wFly m c 1 ∗ wFree m c 2
      ∗ (bigSep Finset.univ fun i => iprop((crd c (.rcv i 0) ∗ pos c (.rcv i 0)) ∗ (crd c (.rcv i 1) ∗ pos c (.rcv i 1))))
      ∗ xbs c (fun h => halfV m c 0 h) ∗ (∃ A, accs c A)) ⊢ Inv m c 0 := by
  have hr : rcvs m c (taken 0) = bigSep Finset.univ fun i => iprop((crd c (.rcv i 0) ∗ pos c (.rcv i 0)) ∗ (crd c (.rcv i 1) ∗ pos c (.rcv i 1))) := by
    unfold rcvs
    rw [bigSep_univ_prod]
    refine bigSep_congr fun i _ => ?_
    rw [bigSep_two]
    rfl
  unfold Inv wSlot
  rw [hr, if_pos (by decide), if_pos (by decide)]
  iintro ⟨HO, H0, H1, H2, Hr, Hx, %A, HA⟩
  isplitl [HO]; · iexact HO
  isplitl [H0]; · iexact H0
  isplitl [H1]; · iexact H1
  isplitl [H2]; · iexact H2
  isplitl [Hr]; · iexact Hr
  isplitl [Hx]
  · iexists (fun h => halfV m c 0 h)
    isplitr; · ipureintro; exact ⟨fun _ _ => rfl, fun h => absurd rfl h⟩
    iexact Hx
  iexists A
  isplitr; · ipureintro; exact fun t ht => absurd ht (Nat.not_lt_zero _)
  iexact HA

theorem inv_end : Inv m c 64 ⊢ iprop(owing c (owe c owedA) ∗ (bigSep Finset.univ fun s => wFree m c s)
      ∗ (bigSep Finset.univ fun i => iprop((zero c (.rcv i 0) ∗ hold c (xgH i 0) (sentV m (pl c i) (Fin.rev i) 0)) ∗ (zero c (.rcv i 1) ∗ hold c (xgH i 1) (sentV m (pl c i) (Fin.rev i) 1))))
      ∗ any c xbM ∗ accs c (fullV m c)) := by
  have hb : ∀ p : Fin 3 × Fin 2, taken 64 p = true := by decide
  have hr : rcvs m c (taken 64) = bigSep Finset.univ fun i => iprop((zero c (.rcv i 0) ∗ hold c (xgH i 0) (sentV m (pl c i) (Fin.rev i) 0)) ∗ (zero c (.rcv i 1) ∗ hold c (xgH i 1) (sentV m (pl c i) (Fin.rev i) 1))) := by
    unfold rcvs
    rw [bigSep_univ_prod]
    refine bigSep_congr fun i _ => ?_
    rw [bigSep_two, hb, hb]
    rfl
  unfold Inv wSlot
  rw [hr, if_neg (by decide), if_neg (by decide), bigSep_three (F := F) (fun s => wFree m c s)]
  iintro ⟨HO, H0, H1, H2, Hr, ⟨%B, -, Hx⟩, %A, %hA, HA⟩
  have e : A = fullV m c := by
    funext t
    have := hA t (by omega)
    rw [this]
    have ht := t.isLt
    rw [show (64 + 7 - t.val) / 8 - 1 = 7 by omega]
    rfl
  rw [e]
  isplitl [HO]; · iexact HO
  isplitl [H0 H1 H2]
  · isplitl [H2]; · iexact H2
    isplitl [H0]; · iexact H0
    iexact H1
  isplitl [Hr]; · iexact Hr
  isplitl [Hx]
  · iapply (xb_glue (F := F) c)
    iapply (show xbs (F := F) c B ⊢ bigSep Finset.univ fun h => any (F := F) c (xbH h) from
      bigSep_mono fun h _ => show hold (F := F) c (xbH h) (B h) ⊢ any (F := F) c (xbH h) from (by unfold any; iintro H; iexists _; iexact H))
    iexact Hx
  iexact HA

/-- What is kept aside up to the first step, of the dealings with the device `1 + i` places on. -/
def aside (i : Fin 3) : sProp 𝕄 :=
  iprop(((tok (F := F) c (.asnd i) 0 ∗ tok (F := F) (pl c i) (.arcv (Fin.rev i)) 0) ∗ crd (F := F) c (.arcv i) ∗ pos (F := F) c (.arcv i))
    ∗ ((crd (F := F) c (.rcv i 0) ∗ pos (F := F) c (.rcv i 0)) ∗ (crd (F := F) c (.rcv i 1) ∗ pos (F := F) c (.rcv i 1)))
    ∗ (pos (F := F) c (.snd i 0) ∗ pos (F := F) c (.snd i 1) ∗ pos (F := F) c (.asnd i)))

theorem deal (i : Fin 3) :
    iprop(toks (F := F) c i ∗ ((pos (F := F) c (.snd i 0) ∗ pos c (.snd i 1)) ∗ (pos c (.rcv i 0) ∗ pos c (.rcv i 1)) ∗ pos c (.asnd i) ∗ pos c (.arcv i))
        ∗ crds c i ∗ (any c (xgH i 0) ∗ any c (xgH i 1)) ∗ any c (allJ i.succ) ∗ any c (xsM.slice (slotR i) (fun _ => rfl)))
      ⊢ iprop(sigPre (F := F) c i ∗ sendPre c i ∗ aside c i) := by
  unfold toks crds any sigPre sendPre aside
  iintro ⟨⟨HtB, HtX, HtA⟩, ⟨⟨Hs0, Hs1⟩, ⟨Hr0, Hr1⟩, Ha, Hb⟩, ⟨⟨Hc0, Hc1⟩, Hcb⟩, ⟨Hg0, Hg1⟩, Hj, Hx⟩
  isplitl [HtB Hg0 Hg1 Hj]
  · isplitl [HtB]; · iexact HtB
    isplitl [Hg0]; · iexact Hg0
    isplitl [Hg1] <;> iassumption
  isplitl [HtX Hx]
  · isplitl [Hx]; · iexact Hx
    iexact HtX
  isplitl [HtA Hcb Hb]
  · isplitl [HtA]; · iexact HtA
    isplitl [Hcb] <;> iassumption
  isplitl [Hr0 Hr1 Hc0 Hc1]
  · isplitl [Hr0 Hc0]
    · isplitl [Hc0] <;> iassumption
    isplitl [Hc1] <;> iassumption
  isplitl [Hs0]; · iexact Hs0
  isplitl [Hs1] <;> iassumption

theorem deal_all :
    iprop((bigSep Finset.univ fun i => toks (F := F) c i)
        ∗ (bigSep Finset.univ fun i => iprop((pos (F := F) c (.snd i 0) ∗ pos c (.snd i 1)) ∗ (pos c (.rcv i 0) ∗ pos c (.rcv i 1)) ∗ pos c (.asnd i) ∗ pos c (.arcv i)))
        ∗ (bigSep Finset.univ fun i => crds c i) ∗ (bigSep Finset.univ fun i => iprop(any c (xgH i 0) ∗ any c (xgH i 1)))
        ∗ (bigSep Finset.univ fun i : Fin 3 => any c (allJ i.succ)) ∗ (bigSep Finset.univ fun i => any c (xsM.slice (slotR i) (fun _ => rfl))))
      ⊢ iprop((bigSep Finset.univ fun i => sigPre (F := F) c i) ∗ (bigSep Finset.univ fun i => sendPre c i) ∗ bigSep Finset.univ fun i => aside c i) := by
  rw [← bigSep_sep', ← bigSep_sep', ← bigSep_sep', ← bigSep_sep', ← bigSep_sep', ← bigSep_sep', ← bigSep_sep']
  exact bigSep_mono fun i _ => deal c i

/-- What is kept aside up to the first step. -/
def Rest : sProp 𝕄 :=
  iprop((part c xM (Transfers.shareDrop fullShare 2) (xv m c) ∗ part c wM (Transfers.shareDrop fullShare 3) (wv m c))
    ∗ (bigSep Finset.univ fun t => any (F := F) c (outT t)) ∗ any (F := F) c myM ∗ any (F := F) c (allJ 0) ∗ (outZero (F := F) c 0 ∗ outZero (F := F) c 1)
    ∗ bigSep Finset.univ fun i => aside (F := F) c i)

theorem w_slots : iprop((bigSep Finset.univ fun s => any (F := F) c (wbS s)) ∗ (bigSep Finset.univ fun s : Fin 3 => semVal ((c : Thread nD τ), SemLoc.dma (wS s)) 0)
      ∗ bigSep Finset.univ fun s => wTok m c s) ⊢ bigSep Finset.univ fun s => wFree m c s := by
  rw [← bigSep_sep', ← bigSep_sep']
  exact bigSep_mono fun s _ => same (wFree m c s)

theorem x_split : hold c xM (xv m c) ⊢ iprop(part c xM (Transfers.shareDrop fullShare 2) (xv m c) ∗ xTok m c 0 ∗ xTok m c 1) := by
  have h := whole_split (F := F) c main_arg0 2 (xv m c)
  rw [bigSep_two] at h
  exact h
theorem x_join : iprop(part c xM (Transfers.shareDrop fullShare 2) (xv m c) ∗ xTok m c 0 ∗ xTok m c 1) ⊢ hold c xM (xv m c) := by
  have h := whole_join (F := F) c main_arg0 2 (xv m c)
  rw [bigSep_two] at h
  exact h
theorem w_split : hold c wM (wv m c) ⊢ iprop(part c wM (Transfers.shareDrop fullShare 3) (wv m c) ∗ bigSep Finset.univ fun s => wTok m c s) :=
  whole_split (F := F) c main_arg1 3 (wv m c)
theorem w_join : iprop(part c wM (Transfers.shareDrop fullShare 3) (wv m c) ∗ bigSep Finset.univ fun s => wTok m c s) ⊢ hold c wM (wv m c) :=
  whole_join (F := F) c main_arg1 3 (wv m c)

theorem pre_split : Pre m c ⊢ iprop(ProPre m c ∗ Rest m c) := by
  unfold Pre scr locals every ProPre Rest stg
  iintro ⟨HO, Ht, ⟨Hpb, Hp⟩, ⟨Hcb, Hc⟩, Hx, Hw, Ho, ⟨Ha, Hs, Hg, Hb, Hwb, Hm, Hj⟩, ⟨Hzw, Hzo, Hzl, Hzs⟩⟩
  ihave Ha := (acc_cut (F := F) c) $$ Ha
  ihave Hs := (xs_cut (F := F) c) $$ Hs
  ihave Hg := (xg_cut (F := F) c) $$ Hg
  ihave Hwb := (wb_cut (F := F) c) $$ Hwb
  ihave Hj := (all_cut (F := F) c) $$ Hj
  ihave Ho := (out_cut (F := F) c) $$ Ho
  icases Hj with ⟨Hj0, Hj⟩
  ihave Hx := (x_split m c) $$ Hx
  icases Hx with ⟨HxD, Hx0, Hx1⟩
  ihave Hw := (w_split m c) $$ Hw
  icases Hw with ⟨HwD, Hw⟩
  ihave Hd := (deal_all (F := F) c) $$ [Ht Hp Hc Hg Hj Hs]
  · isplitl [Ht]; · iexact Ht
    isplitl [Hp]; · iexact Hp
    isplitl [Hc]; · iexact Hc
    isplitl [Hg]; · iexact Hg
    isplitl [Hj] <;> iassumption
  icases Hd with ⟨Hsig, Hsend, Hrest⟩
  isplitr [HxD HwD Ho Hm Hj0 Hzo Hrest]
  · isplitl [HO]; · iexact HO
    isplitl [Hsig]; · iexact Hsig
    isplitl [Hcb Hpb]
    · isplitl [Hcb] <;> iassumption
    isplitl [Hwb Hzw Hw]
    · iapply (w_slots m c)
      isplitl [Hwb]; · iexact Hwb
      isplitl [Hzw]; · iexact Hzw
      iexact Hw
    isplitl [Hx0 Hzl Hb]
    · isplitl [Hx0]; · iexact Hx0
      isplitl [Hzl]; · iexact Hzl
      unfold any
      iexact Hb
    isplitl [Hx1 Hzs Ha]
    · isplitl [Hx1]; · iexact Hx1
      isplitl [Hzs] <;> iassumption
    iexact Hsend
  isplitl [HxD HwD]
  · isplitl [HxD]; · iexact HxD
    iexact HwD
  isplitl [Ho]; · iexact Ho
  isplitl [Hm]; · iexact Hm
  isplitl [Hj0]; · iexact Hj0
  isplitl [Hzo] <;> iassumption

/-- What a device has after the last step, of its dealings with the device `1 + i` places on, the sends awaited. -/
def left (i : Fin 3) : sProp 𝕄 :=
  iprop(drainPost m c i ∗ zero c (.arcv i)
    ∗ ((zero c (.rcv i 0) ∗ hold c (xgH i 0) (sentV m (pl c i) (Fin.rev i) 0)) ∗ (zero c (.rcv i 1) ∗ hold c (xgH i 1) (sentV m (pl c i) (Fin.rev i) 1))))

theorem left_all : iprop((bigSep Finset.univ fun i => drainPost m c i) ∗ (bigSep Finset.univ fun i : Fin 3 => zero (F := F) c (.arcv i))
    ∗ bigSep Finset.univ fun i => iprop((zero c (.rcv i 0) ∗ hold c (xgH i 0) (sentV m (pl c i) (Fin.rev i) 0)) ∗ (zero c (.rcv i 1) ∗ hold c (xgH i 1) (sentV m (pl c i) (Fin.rev i) 1))))
      ⊢ bigSep Finset.univ fun i => left m c i := by
  rw [← bigSep_sep', ← bigSep_sep']
  exact bigSep_mono fun i _ => same (left m c i)

theorem back (i : Fin 3) : left m c i
    ⊢ iprop(((zero (F := F) c (.snd i 0) ∗ zero c (.snd i 1)) ∗ (zero c (.rcv i 0) ∗ zero c (.rcv i 1)) ∗ zero c (.asnd i) ∗ zero c (.arcv i))
      ∗ part c myM (myShare i) (splat (amaxV m c)) ∗ (any c (xsH i 0) ∗ any c (xsH i 1)) ∗ (any c (xgH i 0) ∗ any c (xgH i 1))) := by
  unfold left drainPost any
  iintro ⟨⟨⟨H0, Hs0⟩, ⟨H1, Hs1⟩, H2, Hm⟩, H3, ⟨H4, Hg0⟩, ⟨H5, Hg1⟩⟩
  isplitl [H0 H1 H2 H3 H4 H5]
  · isplitl [H0 H1]
    · isplitl [H0] <;> iassumption
    isplitl [H4 H5]
    · isplitl [H4] <;> iassumption
    isplitl [H2] <;> iassumption
  isplitl [Hm]; · iexact Hm
  isplitl [Hs0 Hs1]
  · isplitl [Hs0]
    · iexists _; iexact Hs0
    · iexists _; iexact Hs1
  isplitl [Hg0]
  · iexists _; iexact Hg0
  · iexists _; iexact Hg1

theorem back_all : (bigSep Finset.univ fun i => left m c i)
    ⊢ iprop((bigSep Finset.univ fun i => iprop((zero (F := F) c (.snd i 0) ∗ zero c (.snd i 1)) ∗ (zero c (.rcv i 0) ∗ zero c (.rcv i 1)) ∗ zero c (.asnd i) ∗ zero c (.arcv i)))
      ∗ (bigSep Finset.univ fun i => part c myM (myShare i) (splat (amaxV m c))) ∗ (bigSep Finset.univ fun i => iprop(any (F := F) c (xsH i 0) ∗ any c (xsH i 1)))
      ∗ (bigSep Finset.univ fun p : Fin 3 × Fin 2 => any (F := F) c (xgH p.1 p.2))) := by
  have e : (bigSep Finset.univ fun p : Fin 3 × Fin 2 => any (F := F) c (xgH p.1 p.2)) = bigSep Finset.univ fun i => iprop(any (F := F) c (xgH i 0) ∗ any c (xgH i 1)) := by
    rw [bigSep_univ_prod]
    exact bigSep_congr fun i _ => bigSep_two (F := F) _
  rw [e, ← bigSep_sep', ← bigSep_sep', ← bigSep_sep']
  exact bigSep_mono fun i _ => back m c i

theorem out_done : (bigSep Finset.univ fun t => outDone m c t) ⊢ iprop((∃ X, ⌜outOk m c X⌝ ∗ hold c outM X) ∗ any (F := F) c accM) := by
  unfold outDone
  rw [bigSep_sep']
  iintro ⟨Ho, Ha⟩
  isplitl [Ho]
  · iapply (glue (F := F) (c := c) outM fullShare tileR (fun _ _ => rfl) tileR_disj tileR_cov (outV m c))
    iexact Ho
  · iapply (acc_glue (F := F) c)
    iapply (show (bigSep Finset.univ fun t => hold c (accT t) (outV m c t)) ⊢ bigSep Finset.univ fun t => any (F := F) c (accT t) from
      bigSep_mono fun t _ => show hold (F := F) c (accT t) (outV m c t) ⊢ any (F := F) c (accT t) from (by unfold any; iintro H; iexists _; iexact H))
    iexact Ha

theorem w_back : (bigSep Finset.univ fun s => wFree m c s)
    ⊢ iprop((bigSep Finset.univ fun s => any (F := F) c (wbS s)) ∗ (bigSep Finset.univ fun s : Fin 3 => semVal ((c : Thread nD τ), SemLoc.dma (wS s)) 0)
      ∗ bigSep Finset.univ fun s => wTok m c s) := by
  rw [← bigSep_sep', ← bigSep_sep']
  exact bigSep_mono fun s _ => same (wFree m c s)

/-- What a device has in the end, before it is put together. -/
def Fin1 : sProp 𝕄 :=
  iprop(owing c (owe c []) ∗ zero (F := F) c .bar ∗ (bigSep Finset.univ fun s => wFree m c s) ∗ (bigSep Finset.univ fun i => left m c i)
    ∗ any (F := F) c xbM ∗ (bigSep Finset.univ fun t => outDone m c t) ∗ (outZero (F := F) c 0 ∗ outZero (F := F) c 1)
    ∗ ((xTok m c 0 ∗ semVal ((c : Thread nD τ), SemLoc.dma locS) 0) ∗ (xTok m c 1 ∗ semVal ((c : Thread nD τ), SemLoc.dma stageS) 0))
    ∗ (part c xM (Transfers.shareDrop fullShare 2) (xv m c) ∗ part c wM (Transfers.shareDrop fullShare 3) (wv m c))
    ∗ part c myM (Transfers.shareDrop fullShare 3) (splat (amaxV m c)) ∗ hold c allM (allV m c))

theorem post_join : Fin1 m c ⊢ Post m c := by
  unfold Fin1 Post scr locals every
  iintro ⟨HO, Hz, Hw, Hl, Hb, Ho, Hzo, ⟨⟨Hx0, Hzl⟩, ⟨Hx1, Hzs⟩⟩, ⟨HxD, HwD⟩, HmD, Hj⟩
  ihave Hw := (w_back m c) $$ Hw
  icases Hw with ⟨Hwb, Hzw, Hw⟩
  ihave Hl := (back_all m c) $$ Hl
  icases Hl with ⟨Hl, Hm, Hs, Hg⟩
  ihave Ho := (out_done m c) $$ Ho
  icases Ho with ⟨Ho, Ha⟩
  isplitl [HO]; · iexact HO
  isplitl [Hz Hl]
  · isplitl [Hz]; · iexact Hz
    iexact Hl
  isplitl [HxD Hx0 Hx1]
  · iapply (x_join m c)
    isplitl [HxD]; · iexact HxD
    isplitl [Hx0] <;> iassumption
  isplitl [HwD Hw]
  · iapply (w_join m c)
    isplitl [HwD]; · iexact HwD
    iexact Hw
  isplitl [Ho]; · iexact Ho
  isplitr [Hzw Hzo Hzl Hzs]
  · isplitl [Ha]; · iexact Ha
    isplitl [Hs]; · iapply (xs_glue (F := F) c); iexact Hs
    isplitl [Hg]; · iapply (xg_glue (F := F) c); iexact Hg
    isplitl [Hb]; · iexact Hb
    isplitl [Hwb]; · iapply (wb_glue (F := F) c); iexact Hwb
    isplitl [HmD Hm]
    · unfold any
      iexists (splat (amaxV m c))
      iapply (my_join (F := F) c (splat (amaxV m c)))
      isplitl [HmD]; · iexact HmD
      iexact Hm
    unfold any
    iexists (allV m c)
    iexact Hj
  isplitl [Hzw]; · iexact Hzw
  isplitl [Hzo]; · iexact Hzo
  isplitl [Hzl] <;> iassumption

theorem wp_body : iprop(recs m K ∗ Pre m c) ⊢ iprop((Post m c -∗ Q ⟨⟩) -∗ WP c (body (F := F)) Q) := by
  unfold body
  iintro ⟨#HR, H⟩ Hk
  ihave H := (pre_split m c) $$ H
  icases H with ⟨H, Hrest⟩
  iapply (wp_prologue m K c) $$ [H]
  · isplitr; · iexact HR
    iexact H
  unfold ProPost stg Rest aside
  iintro ⟨HO, Hzb, Hw0, Hw1, Hw2, ⟨Hx0, Hzl, Hb⟩, ⟨Hx1, Hzs, Ha⟩, Hpl, Hcs⟩
  icases Hrest with ⟨HD, Ho, Hm, Hj0, ⟨Hzo0, Hzo1⟩, Has⟩
  ihave Has := (Entails.of_eq (bigSep_sep' _ _ _)) $$ Has
  icases Has with ⟨Hmx, Has⟩
  ihave Has := (Entails.of_eq (bigSep_sep' _ _ _)) $$ Has
  icases Has with ⟨Hrc, Hdr⟩
  iapply (wp_steps m K c (fun v => gather c v fun v => quantTiles (scaleOf v) drain) 64 0 rfl) $$ [HO Hw0 Hw1 Hw2 Hrc Hb Ha]
  · isplitr; · iexact HR
    iapply (inv_start m c)
    isplitl [HO]; · iexact HO
    isplitl [Hw0]; · iexact Hw0
    isplitl [Hw1]; · iexact Hw1
    isplitl [Hw2]; · iexact Hw2
    isplitl [Hrc]; · iexact Hrc
    isplitl [Hb]; · iexact Hb
    iexact Ha
  iintro HI
  ihave HI := (inv_end m c) $$ HI
  icases HI with ⟨HO, Hw, Hrc, Hb, Ha⟩
  iapply (wp_gather m K c) $$ [HO Hm Hj0 Hpl Hmx]
  · isplitr; · iexact HR
    isplitl [HO]; · iexact HO
    isplitl [Hm]; · unfold any; iexact Hm
    isplitl [Hj0]; · unfold any; iexact Hj0
    iapply (show iprop((bigSep Finset.univ fun i => placeA (F := F) c i)
        ∗ bigSep Finset.univ fun i => iprop((tok (F := F) c (.asnd i) 0 ∗ tok (F := F) (pl c i) (.arcv (Fin.rev i)) 0) ∗ crd (F := F) c (.arcv i) ∗ pos (F := F) c (.arcv i)))
      ⊢ bigSep Finset.univ fun i => maxPre (F := F) c i from by
        rw [← bigSep_sep']
        exact bigSep_mono fun i _ => show iprop(placeA (F := F) c i ∗ (tok (F := F) c (.asnd i) 0 ∗ tok (F := F) (pl c i) (.arcv (Fin.rev i)) 0) ∗ crd (F := F) c (.arcv i) ∗ pos (F := F) c (.arcv i))
          ⊢ maxPre (F := F) c i from by
            unfold maxPre
            iintro ⟨H1, H2, H3⟩
            isplitr [H3]
            · isplitl [H1] <;> iassumption
            iexact H3)
    isplitl [Hpl] <;> iassumption
  iintro ⟨HO, HmD, Hj, Hga⟩
  iapply (wp_quantTiles m K c) $$ [HO Ho Ha Hzo0 Hzo1]
  · isplitr; · iexact HR
    isplitl [HO]; · iexact HO
    isplitl [Ho Ha]
    · unfold accs
      iapply (show iprop((bigSep Finset.univ fun t => hold c (accT t) (fullV m c t)) ∗ bigSep Finset.univ fun t => any (F := F) c (outT t))
        ⊢ bigSep Finset.univ fun t => outPre m c t from by
          rw [← bigSep_sep']
          exact bigSep_mono fun t _ => same (outPre m c t))
      isplitl [Ha] <;> iassumption
    isplitl [Hzo0] <;> iassumption
  iintro ⟨HO, Ho, Hzo0, Hzo1⟩
  ihave Hga := (Entails.of_eq (bigSep_sep' _ _ _)) $$ Hga
  icases Hga with ⟨Hca, Hza⟩
  iapply (wp_drain m K c) $$ [HO Hcs Hca Hdr]
  · isplitr; · iexact HR
    isplitl [HO]; · iexact HO
    iapply (show iprop((bigSep Finset.univ fun i => iprop(crd (F := F) c (.snd i 0) ∗ crd c (.snd i 1))) ∗ (bigSep Finset.univ fun i => crd c (.asnd i))
        ∗ bigSep Finset.univ fun i => iprop(pos (F := F) c (.snd i 0) ∗ pos (F := F) c (.snd i 1) ∗ pos (F := F) c (.asnd i)))
      ⊢ bigSep Finset.univ fun i => drainPre (F := F) c i from by
        rw [← bigSep_sep', ← bigSep_sep']
        exact bigSep_mono fun i _ => show iprop((crd (F := F) c (.snd i 0) ∗ crd c (.snd i 1)) ∗ crd c (.asnd i) ∗ pos (F := F) c (.snd i 0) ∗ pos (F := F) c (.snd i 1) ∗ pos (F := F) c (.asnd i))
          ⊢ drainPre (F := F) c i from by
            unfold drainPre
            iintro ⟨⟨H1, H2⟩, H3, H4, H5, H6⟩
            isplitl [H1 H4]
            · isplitl [H1] <;> iassumption
            isplitl [H2 H5]
            · isplitl [H2] <;> iassumption
            isplitl [H3] <;> iassumption)
    isplitl [Hcs]; · iexact Hcs
    isplitl [Hca] <;> iassumption
  iintro ⟨HO, Hdr⟩
  iapply Hk
  iapply (post_join m c)
  unfold Fin1
  isplitl [HO]; · iexact HO
  isplitl [Hzb]; · iexact Hzb
  isplitl [Hw]; · iexact Hw
  isplitl [Hdr Hza Hrc]
  · iapply (left_all m c)
    isplitl [Hdr]; · iexact Hdr
    isplitl [Hza] <;> iassumption
  isplitl [Hb]; · iexact Hb
  isplitl [Ho]; · iexact Ho
  isplitl [Hzo0 Hzo1]
  · isplitl [Hzo0] <;> iassumption
  isplitl [Hx0 Hzl Hx1 Hzs]
  · isplitl [Hx0 Hzl]
    · isplitl [Hx0] <;> iassumption
    isplitl [Hx1] <;> iassumption
  isplitl [HD]; · iexact HD
  isplitl [HmD] <;> iassumption

end Cert.KernelIdeal.Own

end
-- ==== Proof.Launch.lean ====
/-
  The launch: what the four devices start from, dealt out of the machine's initial state, and the run of the
  whole program.
-/
module

public import proofs.«01_k».proof.Proof.Body
public import proofs.«01_k».proof.Proof.Gen.KernelIdeal.Launch
public import Idealize.ShloMosaic.Lib.Pipeline.CollectiveSegs

@[expose] public section

noncomputable section

namespace Cert.KernelIdeal.Own

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The semaphores of the exchange in a device's dealings with the one `1 + i` places on. -/
def kinds (i : Fin 3) : Fin 6 → CK := ![.snd i 0, .snd i 1, .rcv i 0, .rcv i 1, .asnd i, .arcv i]

/-- They and those of the transfers within the device. -/
def osem : (Fin 3 × Fin 6) ⊕ Fin 7 → SemLoc sig :=
  Sum.elim (fun p => csem (kinds p.1 p.2))
    ![.dma (wS 0), .dma (wS 1), .dma (wS 2), .dma (outS 0), .dma (outS 1), .dma locS, .dma stageS]

set_option maxRecDepth 8000 in
theorem ownSemFacts : Pipeline.OwnSemFacts cfg0.spec osem := by decide +kernel

/-- The semaphores of the exchange but the barrier's, at zero. -/
def zeros (c : Dev nD) : sProp 𝕄 :=
  bigSep Finset.univ fun i => iprop((zero (F := F) c (.snd i 0) ∗ zero c (.snd i 1)) ∗ (zero c (.rcv i 0) ∗ zero c (.rcv i 1)) ∗ zero c (.asnd i) ∗ zero c (.arcv i))

theorem ownSems0_eq (c : Dev nD) : (Pipeline.ownSems0 (Ix := Unit) (Name := ℕ) (U := UU) (Lvl := ℕ) (Val := Elt F) (τ := τ) osem c : sProp 𝕄)
    = iprop(zeros c ∗ locals c) := by
  unfold Pipeline.ownSems0 zeros locals outZero
  rw [BI.bigSep_univ_sum, bigSep_univ_prod, bigSep_univ_eq_bigSepL [0, 1, 2, 3, 4, 5, 6] (by decide) (by decide)
      (fun b : Fin 7 => (semVal (((c : Dev nD) : Thread nD τ), osem (.inr b)) 0 : sProp 𝕄)), bigSep_three (F := F) (fun s => semVal ((c : Thread nD τ), SemLoc.dma (wS s)) 0)]
  have h : ∀ i : Fin 3, (bigSep Finset.univ fun b : Fin 6 => (semVal ((c : Thread nD τ), osem (.inl (i, b))) 0 : sProp 𝕄))
      = iprop((zero (F := F) c (.snd i 0) ∗ zero c (.snd i 1)) ∗ (zero c (.rcv i 0) ∗ zero c (.rcv i 1)) ∗ zero c (.asnd i) ∗ zero c (.arcv i)) := fun i => by
    rw [bigSep_univ_eq_bigSepL [0, 1, 2, 3, 4, 5] (by decide) (by decide)]
    simp only [sep_reassoc]
    rfl
  rw [bigSep_congr fun i _ => h i]
  simp only [sep_reassoc]
  rfl

theorem unscopedSems0_eq (c : Dev nD) : (unscopedSems0 c : sProp 𝕄) = zero c .bar := by
  unfold unscopedSems0; rw [bigSep_eq_bigSepL_of_eq [SemLoc.reg barS] (by decide) (by decide)]; rfl

/-! ## What the launch deals -/

theorem pairs_inj : Function.Injective (fun p : Dev nD × CK => cell p.1 p.2) := fun a b h =>
  Prod.ext (cell_inj h).1 (cell_inj h).2
def ringCells : Finset (GSem nD τ sig) := Finset.univ.map ⟨fun p : Dev nD × CK => cell p.1 p.2, pairs_inj⟩

/-- The raises a device's own semaphores see in its dealings with one other device. -/
def raiseAt (p : Fin 3 × Fin 7) : CK × Fin 3 :=
  ![(.bar, p.1), (.snd p.1 0, 0), (.snd p.1 1, 0), (.rcv p.1 0, 0), (.rcv p.1 1, 0), (.asnd p.1, 0), (.arcv p.1, 0)] p.2
set_option maxRecDepth 8000 in
theorem raiseAt_inj : Function.Injective raiseAt := by decide +kernel
def raise (p : Dev nD × (Fin 3 × Fin 7)) : GSem nD τ sig × ℕ × Fin 3 := (cell p.1 (raiseAt p.2).1, 0, (raiseAt p.2).2)
theorem raise_inj : Function.Injective raise := fun a b h => by
  have h1 := cell_inj (congrArg Prod.fst h)
  have h2 : (raiseAt a.2).2 = (raiseAt b.2).2 := congrArg (fun x : GSem nD τ sig × ℕ × Fin 3 => x.2.2) h
  exact Prod.ext h1.1 (raiseAt_inj (Prod.ext h1.2 h2))
def ringToks : Finset (GSem nD τ sig × ℕ × Fin 3) := Finset.univ.map ⟨raise, raise_inj⟩

def u₀ : UU := (initOf (Pipeline.cells cfgs cellOf_inj) (Pipeline.launchToks cfgs cellOf_inj), (initOf ringCells ringToks, 1))

theorem ownU_split (a : UR sig nD τ) (b : UX) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of the raises a device's own semaphores see. -/
def seen (p : Dev nD × Fin 3) : sProp 𝕄 :=
  iprop(tok (F := F) p.1 .bar p.2 ∗ tok (F := F) p.1 (.snd p.2 0) 0 ∗ tok (F := F) p.1 (.snd p.2 1) 0 ∗ tok (F := F) p.1 (.rcv p.2 0) 0
    ∗ tok (F := F) p.1 (.rcv p.2 1) 0 ∗ tok (F := F) p.1 (.asnd p.2) 0 ∗ tok (F := F) p.1 (.arcv p.2) 0)

def G (c : Dev nD) : sProp 𝕄 :=
  iprop((bigSep Finset.univ fun k : CK => roundState ER (Rd m) (cell c k) 0)
    ∗ (bigSep Finset.univ fun k : CK => pos (F := F) c k) ∗ (bigSep Finset.univ fun k : CK => reached ER (cell c k) 0)
    ∗ bigSep Finset.univ fun i : Fin 3 => seen (F := F) (c, i))

theorem fund : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun i : Fin 3 => seen (c, i) := by
    unfold ringToks; rw [bigSep_map, bigSep_univ_prod]
    refine bigSep_congr fun c _ => ?_
    rw [bigSep_univ_prod]
    refine bigSep_congr fun i _ => ?_
    rw [bigSep_univ_eq_bigSepL [0, 1, 2, 3, 4, 5, 6] (by decide) (by decide)]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G pos; simp only [bigSep_sep']
  isplitl [Hst]; · iexact Hst
  isplitl [Hat]; · iexact Hat
  isplitl [Hr]; · iexact Hr
  iexact Htok

/-! ## The global step: the tokens to those who raise -/

/-- The device and its partner, seen from the other side. -/
def across : Dev nD × Fin 3 ≃ Dev nD × Fin 3 where
  toFun p := (pl p.1 p.2, Fin.rev p.2)
  invFun p := (pl p.1 p.2, Fin.rev p.2)
  left_inv p := Prod.ext (pl_rev p.1 p.2) (Fin.rev_rev p.2)
  right_inv p := Prod.ext (pl_rev p.1 p.2) (Fin.rev_rev p.2)
/-- The partner's number for the barrier is the device's own. -/
def along : Dev nD × Fin 3 ≃ Dev nD × Fin 3 where
  toFun p := (pl p.1 p.2, p.2)
  invFun p := (pl p.1 (Fin.rev p.2), p.2)
  left_inv p := Prod.ext (pl_rev p.1 p.2) rfl
  right_inv p := Prod.ext (rev_pl p.1 p.2) rfl

theorem toks_across : (bigSep Finset.univ fun c : Dev nD => bigSep Finset.univ fun i : Fin 3 => seen (F := F) (c, i))
    ⊢ bigSep Finset.univ fun c : Dev nD => bigSep Finset.univ fun i : Fin 3 => toks (F := F) c i := by
  rw [← bigSep_univ_prod (fun p : Dev nD × Fin 3 => seen (F := F) p), ← bigSep_univ_prod (fun p : Dev nD × Fin 3 => toks (F := F) p.1 p.2)]
  unfold seen toks
  rw [bigSep_sep', bigSep_sep', bigSep_sep', bigSep_sep', bigSep_sep', bigSep_sep', bigSep_sep', bigSep_sep', bigSep_sep', bigSep_sep', bigSep_sep', bigSep_sep',
    bigSep_univ_equiv along (fun p : Dev nD × Fin 3 => tok (F := F) p.1 .bar p.2),
    bigSep_univ_equiv across (fun p : Dev nD × Fin 3 => tok (F := F) p.1 (.rcv p.2 0) 0),
    bigSep_univ_equiv across (fun p : Dev nD × Fin 3 => tok (F := F) p.1 (.rcv p.2 1) 0),
    bigSep_univ_equiv across (fun p : Dev nD × Fin 3 => tok (F := F) p.1 (.arcv p.2) 0)]
  iintro ⟨H1, H2, H3, H4, H5, H6, H7⟩
  isplitl [H1]; · iexact H1
  isplitl [H2 H3 H4 H5]
  · isplitl [H2 H4]
    · isplitl [H2]; · iexact H2
      iexact H4
    · isplitl [H3]; · iexact H3
      iexact H5
  isplitl [H6]; · iexact H6
  iexact H7

/-- The cells' invariants and their reached rounds, without the levels. -/
def recs₀ (K : Dev nD × CK → ℕ) : sProp 𝕄 :=
  iprop((bigSep Finset.univ fun ck : Dev nD × CK => cellInv ER (Rd (F := F) m) (K ck) (cell ck.1 ck.2))
    ∗ bigSep Finset.univ fun ck : Dev nD × CK => reached ER (cell ck.1 ck.2) 0)
instance recs₀_persistent (K : Dev nD × CK → ℕ) : BI.Persistent (recs₀ (F := F) m K) := by unfold recs₀; infer_instance

/-- What the global step leaves with a device. -/
def kept (c : Dev nD) : sProp 𝕄 :=
  iprop((bigSep Finset.univ fun i => toks (F := F) c i) ∗ (bigSep Finset.univ fun k => pos (F := F) c k) ∗ locals (F := F) c)
def G' (c : Dev nD) : sProp 𝕄 := iprop(∃ K, recs₀ m K ∗ kept c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k : CK => reached ER (cell c k) 0)
          ∗ (bigSep Finset.univ fun i : Fin 3 => seen (F := F) (c, i)) ∗ (bigSep Finset.univ fun k : CK => pos (F := F) c k) ∗ locals (F := F) c) := by
  have hinv : iprop((bigSep Finset.univ fun k : CK => zero (F := F) c k) ∗ bigSep Finset.univ fun k : CK => roundState ER (Rd m) (cell c k) 0)
      ⊢ (|={Set.univ}=> bigSep Finset.univ fun k => iprop(∃ κ : ℕ, cellInv ER (Rd m) κ (cell c k)) : sProp 𝕄) := by
    rw [← bigSep_sep']
    exact (bigSep_mono fun k _ => (Rounds.body_intro ER (Rd m) (cell c k)).trans inv_alloc).trans (bigSep_fupd _ _)
  rw [ownSems0_eq, unscopedSems0_eq]
  unfold G
  iintro ⟨⟨Hz, Hl⟩, Hb, Hst, Hat, Hr, Htok⟩
  imod hinv $$ [Hz Hb Hst] with Hinv
  · isplitl [Hz Hb]
    · iapply (Entails.of_eq (every_eq (fun k => zero (F := F) c k)).symm)
      unfold every zeros
      isplitl [Hb] <;> iassumption
    iexact Hst
  imodintro
  isplitl [Hinv]; · iexact Hinv
  isplitl [Hr]; · iexact Hr
  isplitl [Htok]; · iexact Htok
  isplitl [Hat] <;> iassumption

theorem regroup :
    (bigSep Finset.univ fun c : Dev nD => iprop((bigSep Finset.univ fun k => iprop(∃ κ : ℕ, cellInv ER (Rd m) κ (cell c k)))
          ∗ (bigSep Finset.univ fun k : CK => reached ER (cell c k) 0)
          ∗ (bigSep Finset.univ fun i : Fin 3 => seen (F := F) (c, i)) ∗ (bigSep Finset.univ fun k : CK => pos (F := F) c k) ∗ locals (F := F) c) : sProp 𝕄)
      ⊢ bigSep Finset.univ (G' m) := by
  rw [bigSep_sep', bigSep_sep', bigSep_sep', bigSep_sep', ← bigSep_univ_prod (fun ck : Dev nD × CK => iprop(∃ κ : ℕ, cellInv ER (Rd m) κ (cell ck.1 ck.2))),
    ← bigSep_univ_prod (fun ck : Dev nD × CK => (reached ER (cell ck.1 ck.2) 0 : sProp 𝕄))]
  iintro ⟨HI, #HR, Htok, Hat, Hl⟩
  ihave HK := (BI.bigSep_exists_pi Finset.univ (fun (ck : Dev nD × CK) (κ : ℕ) => (cellInv ER (Rd m) κ (cell ck.1 ck.2) : sProp 𝕄))) $$ HI
  icases HK with ⟨%K, #HI⟩
  ihave Htk := (toks_across (F := F)) $$ Htok
  have hG : iprop(recs₀ m K ∗ bigSep Finset.univ fun c => kept (F := F) c) ⊢ bigSep Finset.univ (G' m) :=
    (sep_mono_left (BI.bigSep_of_persistent Finset.univ (recs₀ m K))).trans (by
      rw [← bigSep_sep']
      exact bigSep_mono fun c _ => show iprop(recs₀ m K ∗ kept (F := F) c) ⊢ G' m c from (by unfold G'; iintro H; iexists K; iexact H))
  iapply hG
  isplitr
  · unfold recs₀; isplitl; · iexact HI
    iexact HR
  unfold kept
  rw [bigSep_sep', bigSep_sep']
  isplitl [Htk]; · iexact Htk
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- The credits for a list of raises everyone owes. -/
def crdL (c : Dev nD) : List DK → sProp 𝕄
  | [] => iprop(emp)
  | d :: l => iprop(cred (tallyAt (cell c d.ck) () (amt d.ck)) ∗ crdL c l)

theorem creds_of (c : Dev nD) (l : List DK) : (Pipeline.launchCred (fun d => owe d l) c : sProp 𝕄) ⊢ crdL c l := by
  induction l with
  | nil => exact Entails.of_eq (Pipeline.launchCred_zero c)
  | cons k l ih =>
    have e : (fun d : Dev nD => owe d (k :: l)) = fun d => owe d l + tallyAt (((pl d k.to : Dev nD) : Thread nD τ), csem k.ck) () (amt k.ck) := rfl
    rw [e, Pipeline.launchCred_add]
    have h := Pipeline.launchCred_tallyAt (Val := Elt F) (Name := ℕ) (U := UU) (Lvl := ℕ) (τ := τ) (csem k.ck) (fun d => pl d k.to) (fun d => pl d (Fin.rev k.to))
      (fun d => rev_pl d k.to) (fun d => pl_rev d k.to) () (amt k.ck) c
    unfold crdL
    iintro ⟨H1, H2⟩
    isplitl [H2]; · iapply h; iexact H2
    iapply ih; iexact H1

theorem creds (c : Dev nD) : (Pipeline.launchCred O₀ c : sProp 𝕄) ⊢ iprop(crd (F := F) c .bar ∗ bigSep Finset.univ fun i => crds (F := F) c i) := by
  have hb : iprop(cred (tallyAt (cell c .bar) () 1) ∗ cred (tallyAt (cell c .bar) () 1) ∗ cred (tallyAt (cell c .bar) () 1)) ⊢ crd (F := F) c .bar := by
    have e : (tallyAt (cell c .bar) () ((dut .bar).card * amt .bar) : CellTallies nD τ sig Unit)
        = tallyAt (cell c .bar) () 1 + (tallyAt (cell c .bar) () 1 + tallyAt (cell c .bar) () 1) := by
      rw [show (dut .bar).card * amt .bar = 1 + (1 + 1) from rfl, tallyAt_add, tallyAt_add]
    unfold crd
    rw [e]
    exact (sep_mono_right (cred_add _ _).2).trans (cred_add _ _).2
  refine (creds_of c owed).trans ?_
  rw [bigSep_three (F := F) (fun i => crds c i)]
  show iprop(cred (tallyAt (cell c .bar) () 1) ∗ cred (tallyAt (cell c .bar) () 1) ∗ cred (tallyAt (cell c .bar) () 1)
    ∗ crd (F := F) c (.rcv 2 0) ∗ crd (F := F) c (.rcv 2 1) ∗ crd (F := F) c (.rcv 0 0) ∗ crd (F := F) c (.rcv 0 1) ∗ crd (F := F) c (.rcv 1 0) ∗ crd (F := F) c (.rcv 1 1)
    ∗ crd (F := F) c (.arcv 2) ∗ crd (F := F) c (.arcv 0) ∗ crd (F := F) c (.arcv 1) ∗ emp) ⊢ _
  unfold crds
  iintro ⟨B0, B1, B2, R20, R21, R00, R01, R10, R11, A2, A0, A1, -⟩
  isplitl [B0 B1 B2]
  · iapply hb
    isplitl [B0]; · iexact B0
    isplitl [B1] <;> iassumption
  isplitl [R00 R01 A0]
  · isplitl [R00 R01]
    · isplitl [R00] <;> iassumption
    iexact A0
  isplitl [R10 R11 A1]
  · isplitl [R10 R11]
    · isplitl [R10] <;> iassumption
    iexact A1
  isplitl [R20 R21]
  · isplitl [R20] <;> iassumption
  iexact A2

/-! ## Before and after the body -/

/-- What the body starts from but the scratch buffers and what is owed. -/
def start (c : Dev nD) : sProp 𝕄 :=
  iprop(∃ K, recs m K ∗ (bigSep Finset.univ fun i => toks (F := F) c i) ∗ every (fun k => pos (F := F) c k)
    ∗ (crd (F := F) c .bar ∗ bigSep Finset.univ fun i => crds (F := F) c i)
    ∗ (hold c xM (xv m c) ∗ hold c wM (wv m c) ∗ any (F := F) c outM) ∗ locals (F := F) c)
def Φ₀ (c : Dev nD) : sProp 𝕄 := iprop(start m c ∗ scr (F := F) c)
/-- The arrays at the end. -/
def Y₀ (c : Dev nD) : sProp 𝕄 :=
  iprop(zero (F := F) c .bar ∗ hold c xM (xv m c) ∗ hold c wM (wv m c) ∗ ∃ X, ⌜outOk m c X⌝ ∗ hold c outM X)
def Φ₁ (c : Dev nD) : sProp 𝕄 := iprop(Y₀ m c ∗ (zeros (F := F) c ∗ locals (F := F) c) ∗ scr (F := F) c)

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A whole buffer held is its cells held. -/
theorem any_whole (c : Dev nD) (b : Ref sig .tc) (hb : (c : Thread nD τ).loc b = (c : Thread nD τ).loc b) :
    any (F := F) c (Memref.whole b) = iprop(∃ f : Buf (Elt F) ((c : Thread nD τ).loc b), ((c : Thread nD τ).loc b) ↦{fullShare} f) := by
  unfold any hold
  simp only [owns_whole]

theorem scr_eq (c : Dev nD) : (Pipeline.scopedRest (Ix := Unit) (Name := ℕ) (U := UU) (Lvl := ℕ) (Val := Elt F) (cfg0.spec) c : sProp 𝕄) = scr (F := F) c := by
  rw [scopedRest0_eq]
  unfold scr
  rw [show any (F := F) c accM = _ from any_whole c cc0_scratch0 rfl, show any (F := F) c xsM = _ from any_whole c cc0_scratch1 rfl,
    show any (F := F) c xgM = _ from any_whole c cc0_scratch2 rfl, show any (F := F) c xbM = _ from any_whole c cc0_scratch3 rfl,
    show any (F := F) c wbM = _ from any_whole c cc0_scratch4 rfl, show any (F := F) c myM = _ from any_whole c cc0_scratch5 rfl,
    show any (F := F) c allM = _ from any_whole c cc0_scratch6 rfl]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have ex : hold (F := F) c xM (xv m c) = ((c : Thread nD τ).loc main_arg0 ↦{fullShare} m ((c : Thread nD τ).loc main_arg0)) := owns_whole _ _ _ _
  have ew : hold (F := F) c wM (wv m c) = ((c : Thread nD τ).loc main_arg1 ↦{fullShare} m ((c : Thread nD τ).loc main_arg1)) := owns_whole _ _ _ _
  have eo : any (F := F) c outM = _ := any_whole c main_v1 rfl
  rw [Pipeline.unscopedRestP_none, unscopedRest0_eq]
  unfold start G' kept recs recs₀
  rw [ex, ew, eo]
  iintro ⟨⟨Hx, Hw, Ho⟩, Hlev, Hcr, -, %K, ⟨HI, HR⟩, Ht, Hp, Hl⟩
  ihave Hc := (creds (F := F) c) $$ Hcr
  ihave Hp := (Entails.of_eq (every_eq (fun k => pos (F := F) c k))) $$ Hp
  imodintro
  isplitl
  · iexists K
    isplitl [HI HR Hlev]
    · isplitl [HI]; · iexact HI
      isplitl [HR] <;> iassumption
    isplitl [Ht]; · iexact Ht
    isplitl [Hp]; · iexact Hp
    isplitl [Hc]; · iexact Hc
    isplitl [Hx Hw Ho]
    · isplitl [Hx]; · iexact Hx
      isplitl [Hw]; · iexact Hw
      iexists _; iexact Ho
    iexact Hl
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs]; · iexact Hs
  iexact Hr

theorem phi1_exit (c : Dev nD) :
    (dats m 0 c).Φ (Fin.last cfg0.N) ⊢ iprop(Y₀ m c ∗ Pipeline.ownSems0 osem c ∗ Pipeline.scopedRest cfg0.spec c) := by
  rw [show (dats m 0 c).Φ (Fin.last cfg0.N) = Φ₁ m c from rfl, scr_eq, ownSems0_eq]
  unfold Φ₁
  exact same _

set_option maxRecDepth 60000 in
theorem body_obligation (c : Dev nD) : Pipeline.BodyObligation (dats (F := F) m 0 c) (defs₀ (F := F)) 𝒱₀ () Set.univ := fun t => by
  have ht : t = t0_0 := fin_N0 t
  subst ht
  have hprog : (defs₀ (F := F)) .tc cfg0.body (cfg0.bodyArgs t0_0 (cfg0.slots t0_0)) = body (F := F) := body_eq (F := F) t0_0
  rw [hprog]
  have key : iprop(Φ₀ m c ∗ owing c (O₀ c)) ⊢ WP c (body (F := F)) fun _ => iprop(Φ₁ m c ∗ owing (F := F) c (owe c [])) := by
    unfold Φ₀ start
    iintro ⟨⟨⟨%K, HR, Ht, Hp, Hc, ⟨Hx, Hw, Ho⟩, Hl⟩, Hs⟩, HO⟩
    iapply (wp_body m K c) $$ [HR Ht Hp Hc Hx Hw Ho Hl Hs HO]
    · isplitl [HR]; · iexact HR
      unfold Pre
      isplitl [HO]; · iexact HO
      isplitl [Ht]; · iexact Ht
      isplitl [Hp]; · iexact Hp
      isplitl [Hc]; · iexact Hc
      isplitl [Hx]; · iexact Hx
      isplitl [Hw]; · iexact Hw
      isplitl [Ho]; · iexact Ho
      isplitl [Hs] <;> iassumption
    unfold Post Φ₁ Y₀ every zeros
    iintro ⟨HO, ⟨Hzb, Hz⟩, Hx, Hw, Ho, Hs, Hl⟩
    isplitr [HO]
    · isplitl [Hzb Hx Hw Ho]
      · isplitl [Hzb]; · iexact Hzb
        isplitl [Hx]; · iexact Hx
        isplitl [Hw] <;> iassumption
      isplitl [Hz Hl]
      · isplitl [Hz] <;> iassumption
      iexact Hs
    iexact HO
  have hin : (dats (F := F) m 0 c).owesAt () t0_0.castSucc ⊢ owing (F := F) c (O₀ c) := by
    unfold Pipeline.Dat.owesAt Pipeline.owesWithin owing
    iintro ⟨%W, -, HO⟩
    iexists W
    iexact HO
  have hout : owing (F := F) c (owe c []) ⊢ (dats (F := F) m 0 c).owesAt () t0_0.succ := by
    unfold Pipeline.Dat.owesAt Pipeline.owesWithin owing
    iintro ⟨%W, HO⟩
    iexists W
    isplitr; · ipureintro; exact fun _ _ => Or.inl trivial
    iexact HO
  have hnone (Ψ : Fin cfg0.W → sProp 𝕄) : emp ⊢ bigSep Finset.univ Ψ := by
    rw [show (Finset.univ : Finset (Fin cfg0.W)) = ∅ from rfl, bigSep_empty]
    exact same _
  have eΦ : (dats (F := F) m 0 c).Φ t0_0.castSucc = Φ₀ m c := rfl
  have eΦ' : (dats (F := F) m 0 c).Φ t0_0.succ = Φ₁ m c := rfl
  rw [eΦ, eΦ']
  refine BIBase.Entails.trans ?_ (wp_mono _ _ _ (Q := fun _ => iprop(Φ₁ m c ∗ owing (F := F) c (owe c []))) fun _ => ?_)
  · refine BIBase.Entails.trans ?_ key
    iintro ⟨HΦ, HO, -⟩
    isplitl [HΦ]; · iexact HΦ
    iapply hin; iexact HO
  · iintro ⟨HΦ, HO⟩
    isplitl [HΦ]; · iexact HΦ
    isplitl [HO]
    · iapply hout; iexact HO
    iapply (hnone _)
    iempintro

/-! ## The run -/

theorem waits (c : Dev nD) : (levAts L lv : sProp 𝕄) ⊢ Pipeline.cellsWaits cfgs (dats (F := F) m) () 0 c :=
  Pipeline.cellsWaits_intro cfgs (dats (F := F) m) () 0 c fun w s t => w.elim0

/-- What the arrays hold at the end. -/
def Final (c : Dev nD) (mem : (ℓ : Loc nD τ sig) → Buf (Elt F) ℓ) : Prop :=
  mem ((c : Thread nD τ).loc main_arg0) = m ((c : Thread nD τ).loc main_arg0)
    ∧ mem ((c : Thread nD τ).loc main_arg1) = m ((c : Thread nD τ).loc main_arg1)
    ∧ outOk m c (mem ((c : Thread nD τ).loc main_v1))

theorem hold_read (c : Dev nD) (b : Ref sig .tc) (X : b.ty.Contents (Elt F)) (s' : Phys nD τ sig (Elt F)) :
    iprop(hold (F := F) c (Memref.whole b) X ∗ SI s') ⊢ iprop(⌜s'.mem.mem ((c : Thread nD τ).loc b) = X⌝ ∗ SI s') := by
  unfold hold
  rw [owns_whole]
  iintro ⟨H, HSI⟩
  icombine HSI H gives %h
  isplitr
  · ipureintro; exact Buf.eq_of_forall_mem_univ h
  iexact HSI

theorem read_end (c : Dev nD) (s' : Phys nD τ sig (Elt F)) :
    iprop(Y₀ m c ∗ SI s') ⊢ |={Set.univ}=> iprop(⌜Final m c s'.mem.mem ∧ ∀ sm : SemLoc sig, sm.isScoped .tc = false → s'.mem.sem ((c : Thread nD τ), sm) = 0⌝ ∗ SI s') := by
  have h0 (X) := hold_read (F := F) c main_arg0 X s'
  have h1 (X) := hold_read (F := F) c main_arg1 X s'
  have h2 (X) := hold_read (F := F) c main_v1 X s'
  unfold Y₀
  iintro ⟨⟨Hz, Hx, Hw, %X, %hX, Ho⟩, HSI⟩
  ihave H := (h0 (xv m c)) $$ [Hx HSI]
  · isplitl [Hx]; · iexact Hx
    iexact HSI
  icases H with ⟨%e0, HSI⟩
  ihave H := (h1 (wv m c)) $$ [Hw HSI]
  · isplitl [Hw]; · iexact Hw
    iexact HSI
  icases H with ⟨%e1, HSI⟩
  ihave H := (h2 X) $$ [Ho HSI]
  · isplitl [Ho]; · iexact Ho
    iexact HSI
  icases H with ⟨%e2, HSI⟩
  ihave Hu := (Entails.of_eq (unscopedSems0_eq (F := F) c).symm) $$ Hz
  imod (Pipeline.unscopedSems0_read (X := unscopedSems0 c) (c := c) fupd_intro s') $$ [Hu HSI] with ⟨%hs, HSI⟩
  · isplitl [Hu] <;> iassumption
  imodintro
  isplitr
  · ipureintro
    exact ⟨⟨e0, e1, by rw [e2]; exact hX⟩, hs⟩
  iexact HSI

set_option maxRecDepth 60000 in
/-- From any memory with zero counters the four devices run to the end: the arguments are as they were, the
    results as computed, every counter back at zero. -/
theorem run_main : θ_run defs (onTc (τ := τ) (main (F := F))) ⟨m, fun _ => 0, ρ⟩ (fun r => (∀ c : Dev nD, Final m c r.2.mem) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund m) $$ HX with HG
      imodintro
      isplitl [HP] <;> iassumption)
    (hglob := glob m)
    (hA := fun _ w => w.elim0) (hpf := fun _ k => k.elim0)
    (X := start m) (Y := Y₀ m) (Z := fun _ => iprop(emp))
    (hX := start_intro m ρ) (hin := phi0_intro m) (hout := phi1_exit m)
    (QY := fun c s => Final m c s.mem ∧ ∀ sm : SemLoc sig, sm.isScoped .tc = false → s.sem ((c.tc : Thread nD τ), sm) = 0)
    (hY := fun c s' => by
      iintro ⟨Hu, -, HSI⟩
      iapply (read_end m c s')
      isplitl [Hu] <;> iassumption)
    (hQ := fun _ h hs => ⟨fun c => (h c).2.2.1, sem_eq_zero hs fun c => (h c).2.2.2⟩)

end Cert.KernelIdeal.Own

end
-- ==== Proof.Value.lean ====
/-
  The values on the extended reals. A finished tile is the tile of the whole product: the eight half blocks a
  device multiplies are the eight runs of 512 of the summed index, taken in an order of its own. The maxima
  the devices gather are together the maximum over the whole product, so the scale is the reference's, and so
  is every quantised element.
-/
module

public import proofs.«01_k».proof.Proof.Sched
public import proofs.«01_k».proof.Proof.Gen.ReferenceIdeal
public import Idealize.ShloMosaic.Lib.MatmulPlain
public import Idealize.ShloMosaic.Lib.StackMember
public import Idealize.ShloMosaic.Lib.ValueLayout
public import Idealize.ShloMosaic.Lib.ValueIdx
public import Idealize.ShloMosaic.Lib.Layout

@[expose] public section

noncomputable section

namespace Cert.KernelIdeal.Own

open Cert.KernelIdeal.Gen
open Idealize.ShloMosaic Idealize.ShloMosaic.TcCoe Idealize.ShloMosaic.ValueIdx
open scoped BigOperators

variable (m : (ℓ : Loc nD τ sig) → Buf (Elt Ideal) ℓ)
variable (X : Cert.ReferenceIdeal.S4096x4096.Idx → Ideal .f32) (W : S4096x8192.Idx → Ideal .f32)

/-! ## Coordinates -/

/-- Row `a` of device `c`'s rows, -/
def rowF (c : Dev nD) (a : Fin 1024) : Fin 4096 := ⟨1024 * c.val + a.val, by have := c.isLt; have : nD = 4 := rfl; omega⟩
/-- column `b` of tile `t`, -/
def colF (t : Fin 8) (b : Fin 1024) : Fin 8192 := ⟨1024 * t.val + b.val, by omega⟩
/-- place `k` of run `g` of the summed index, -/
def runF (g : Fin 8) (k : Fin 512) : Fin 4096 := ⟨512 * g.val + k.val, by omega⟩
/-- and the run half `h` of block `o` is on device `c`. -/
def blkF (c : Dev nD) (o : Fin 4) (h : Fin 2) : Fin 8 := ⟨2 * ((c.val + o.val) % 4) + h.val, by omega⟩

theorem blkF_bijective : ∀ c : Dev nD, Function.Bijective fun i : Fin 8 => blkF c (oB i.val) (cB i.val) := by decide +kernel

theorem off3_eq : ∀ d : Dev nD, k0_off3 d = ![1024 * d.val, 0] := by decide +kernel
theorem off4_eq : ∀ (d : Dev nD) (i : Fin 3), k0_off4 d (BitVec.ofNat 32 (1 + i.val)) = ![1024 * (pl d i).val, 0] := by decide +kernel
theorem pl_slot : ∀ (c : Dev nD) (o : Fin 4), o ≠ 0 → (pl c (slotOf o)).val = (c.val + o.val) % 4 := by decide

/-! ## The operands -/

/-- How the left operand and the result are cut among the devices. -/
theorem tilesX : Layout.Tiles ⟨2, ![4096, 1024]⟩ ⟨2, ![4096, 4096]⟩ 1 4 := by decide
theorem tilesY : Layout.Tiles ⟨2, ![1024, 8192]⟩ ⟨2, ![4096, 8192]⟩ 0 4 := by decide

variable (hx : ∀ c : Dev nD, xv m c = Layout.block ⟨2, ![4096, 1024]⟩ ⟨2, ![4096, 4096]⟩ 1 4 c X tilesX)
variable (hw : ∀ c : Dev nD, wv m c = W)

include hx in
theorem xv_apply (c : Dev nD) (r : Fin 4096) (k : Fin 1024) : xv m c (ix2 r k) = X (ix2 r (rowF c k)) := by
  rw [hx]
  refine congrArg X (funext fun a => Fin.ext ?_)
  match a with
  | ⟨0, _⟩ => rfl
  | ⟨1, _⟩ => exact congrArg (· + k.val) (Nat.mul_comm _ _)

theorem widen_slotV (v : Vec Ideal S1024x512 .bf16) : widen (slotV v) = v := by
  funext j
  show v (Shape.reshapeEquiv _ (Shape.reshapeEquiv _ (Shape.reshapeEquiv _ j))) = v j
  rw [Shape.reshapeEquiv_reshapeEquiv, Shape.reshapeEquiv_self, Shape.reshapeEquiv_self]

theorem narrow_apply (v : Tile Ideal) (a b : Fin 1024) : narrow v (ix3 (⟨0, Nat.one_pos⟩ : Fin 1) a b) = v (ix2 a b) := by
  show v (Shape.reshapeEquiv _ (ix3 (⟨0, Nat.one_pos⟩ : Fin 1) a b)) = _
  rw [← reshapeEquiv_ix2_1ab shapeCasts_S1024x1024_S1x1024x1024.symm a b, Shape.reshapeEquiv_reshapeEquiv, Shape.reshapeEquiv_self]

include hx in
theorem half_apply (c : Dev nD) (o : Fin 4) (h : Fin 2) (a : Fin 1024) (k : Fin 512) :
    halfV m c o h (ix2 a k) = X (ix2 (rowF c a) (runF (blkF c o h) k)) := by
  unfold halfV
  have hb : 512 * h.val + k.val < 1024 := by omega
  by_cases ho : o = 0
  · subst ho
    rw [if_pos rfl]
    show xv m c ((xOwnR c).emb ((halfR h).emb (ix2 a k))) = _
    rw [show (xOwnR c).emb ((halfR h).emb (ix2 a k)) = ix2 (rowF c a) ⟨512 * h.val + k.val, hb⟩ from ?_, xv_apply m X hx]
    · refine congrArg (fun q => X (ix2 _ q)) (Fin.ext ?_)
      show 1024 * c.val + (512 * h.val + k.val) = 512 * (2 * ((c.val + 0) % 4) + h.val) + k.val
      have := c.isLt; have : nD = 4 := rfl; omega
    · funext q; apply Fin.ext
      match q with
      | ⟨0, _⟩ =>
        show k0_off3 c 0 + 1 * (0 + 1 * a.val) = 1024 * c.val + a.val
        rw [off3_eq]; show 1024 * c.val + _ = _; omega
      | ⟨1, _⟩ =>
        show k0_off3 c 1 + 1 * (512 * h.val + 1 * k.val) = 512 * h.val + k.val
        rw [off3_eq]; show 0 + _ = _; omega
  · rw [if_neg ho, widen_slotV]
    show narrow (xOutV m (pl c (slotOf o)) (Fin.rev (slotOf o))) ((hR h).emb (Shape.reshapeEquiv squeezes_S1x1024x512_S1024x512.numel_eq (ix2 a k))) = _
    rw [show Shape.reshapeEquiv squeezes_S1x1024x512_S1024x512.numel_eq (ix2 a k) = ix3 (⟨0, Nat.one_pos⟩ : Fin 1) a k from
        reshapeEquiv_ix2_1ab _ a k,
      show (hR h).emb (ix3 (⟨0, Nat.one_pos⟩ : Fin 1) a k) = ix3 (⟨0, Nat.one_pos⟩ : Fin 1) a (⟨512 * h.val + k.val, hb⟩ : Fin 1024) from ?_,
      narrow_apply]
    · show xv m _ ((xOutR (pl c (slotOf o)) (Fin.rev (slotOf o))).emb (ix2 a _)) = _
      rw [show (xOutR (pl c (slotOf o)) (Fin.rev (slotOf o))).emb (ix2 a (⟨512 * h.val + k.val, hb⟩ : Fin 1024))
        = ix2 (rowF c a) ⟨512 * h.val + k.val, hb⟩ from ?_, xv_apply m X hx]
      · refine congrArg (fun q => X (ix2 _ q)) (Fin.ext ?_)
        show 1024 * (pl c (slotOf o)).val + (512 * h.val + k.val) = 512 * (2 * ((c.val + o.val) % 4) + h.val) + k.val
        rw [pl_slot c o ho]; omega
      · have e : k0_off4 (pl c (slotOf o)) (BitVec.ofNat 32 (1 + (Fin.rev (slotOf o)).val)) = ![1024 * c.val, 0] := by
          rw [off4_eq, pl_rev]
        funext q; apply Fin.ext
        match q with
        | ⟨0, _⟩ =>
          show k0_off4 (pl c (slotOf o)) (BitVec.ofNat 32 (1 + (Fin.rev (slotOf o)).val)) 0 + 1 * a.val = 1024 * c.val + a.val
          rw [e]; show 1024 * c.val + _ = _; omega
        | ⟨1, _⟩ =>
          show k0_off4 (pl c (slotOf o)) (BitVec.ofNat 32 (1 + (Fin.rev (slotOf o)).val)) 1 + 1 * (512 * h.val + k.val) = 512 * h.val + k.val
          rw [e]; show 0 + _ = _; omega
    · funext q; apply Fin.ext
      match q with
      | ⟨0, _⟩ => rfl
      | ⟨1, _⟩ => show 0 + 1 * a.val = a.val; omega
      | ⟨2, _⟩ => show 512 * h.val + 1 * k.val = 512 * h.val + k.val; omega

include hw in
theorem w_apply (c : Dev nD) (o : Fin 4) (h : Fin 2) (t : Fin 8) (k : Fin 512) (b : Fin 1024) :
    shapeCast S512x1024 (wSlotV (wVal m c o h t)) shapeCasts_S1x512x1024_S512x1024 (ix2 k b)
      = W (ix2 (runF (blkF c o h) k) (colF t b)) := by
  show wv m c ((wR c o h t).emb (Shape.reshapeEquiv squeezes_S1x512x1024_S512x1024.numel_eq.symm
    (Shape.reshapeEquiv shapeCasts_S1x512x1024_S512x1024 (ix2 k b)))) = _
  rw [hw, Shape.reshapeEquiv_reshapeEquiv, Shape.reshapeEquiv_self]
  refine congrArg W (funext fun q => Fin.ext ?_)
  match q with
  | ⟨0, _⟩ =>
    show wOff c o h t 0 + 1 * k.val = 512 * (2 * ((c.val + o.val) % 4) + h.val) + k.val
    rw [wOff_eq]; show 1024 * ((c.val + o.val) % 4) + 512 * h.val + _ = _; omega
  | ⟨1, _⟩ =>
    show wOff c o h t 1 + 1 * b.val = 1024 * t.val + b.val
    rw [wOff_eq]; show 1024 * t.val + _ = _; omega

/-! ## The product -/

theorem zero_bits : Ideal.ofBits .f32 0x00000000#32 = 0 := by simp [Ideal.ofBits, Ideal.ieee]
theorem one_bits : Ideal.ofBits .f32 0x3F800000#32 = 1 := by simp [Ideal.ofBits, Ideal.ieee, -EReal.coe_mul]; norm_num
theorem bot_bits : Ideal.ofBits .f32 0xFF800000#32 = ⊥ := by simp [Ideal.ofBits, Ideal.ieee]

theorem mm_apply (l : Half Ideal) (w : WTile Ideal) (a b : Fin 1024) :
    mm l w (ix2 a b) = ∑ k : Fin 512, l (ix2 a k) * shapeCast S512x1024 w shapeCasts_S1x512x1024_S512x1024 (ix2 k b) := by
  refine (Ideal.matmul_plain_apply none l (shapeCast S512x1024 w shapeCasts_S1x512x1024_S512x1024)
    (constant S1024x1024 .f32 0x00000000#32) a b).trans ?_
  rw [show (constant S1024x1024 .f32 0x00000000#32 : FVec Ideal S1024x1024 .f32) (ix2 a b) = 0 from zero_bits, zero_add]

/-- What run `g` of the summed index brings to an element of the product. -/
def runSum (r : Fin 4096) (s : Fin 8192) (g : Fin 8) : EReal := ∑ k : Fin 512, X (ix2 r (runF g k)) * W (ix2 (runF g k) s)

include hx hw in
theorem mm_run (c : Dev nD) (t : Fin 8) (n : ℕ) (a b : Fin 1024) :
    mm (halfV m c (oB n) (cB n)) (wSlotV (wVal m c (oB n) (cB n) t)) (ix2 a b)
      = runSum X W (rowF c a) (colF t b) (blkF c (oB n) (cB n)) := by
  rw [mm_apply]
  exact Finset.sum_congr rfl fun k _ => by rw [half_apply m X hx, w_apply m W hw]

include hx hw in
theorem tile_apply (c : Dev nD) (t : Fin 8) (a b : Fin 1024) (n : ℕ) :
    tileV m c t n (ix2 a b) = ∑ i ∈ Finset.range (n + 1), runSum X W (rowF c a) (colF t b) (blkF c (oB i) (cB i)) := by
  induction n with
  | zero => rw [Finset.sum_range_one]; exact mm_run m X W hx hw c t 0 a b
  | succ n ih =>
    rw [Finset.sum_range_succ, ← ih]
    exact congrArg (tileV m c t n (ix2 a b) + ·) (mm_run m X W hx hw c t (n + 1) a b)

theorem sum_runs (f : Fin 4096 → EReal) : ∑ g : Fin 8, ∑ k : Fin 512, f (runF g k) = ∑ q : Fin 4096, f q := by
  rw [← Fintype.sum_prod_type']
  refine Fintype.sum_equiv (finProdFinEquiv (m := 8) (n := 512)) _ _ fun p => congrArg f (Fin.ext ?_)
  exact Nat.add_comm _ _

/-- The whole product. -/
def prodV : S4096x8192.Idx → Ideal .f32 :=
  Host.dotGeneral Cert.ReferenceIdeal.dot_S4096x4096_S4096x8192_S4096x8192_1_0_0_1_n_n none X W

theorem prod_apply (r : Fin 4096) (s : Fin 8192) : prodV X W (ix2 r s) = ∑ q : Fin 4096, X (ix2 r q) * W (ix2 q s) :=
  StackMember.dotGeneral_plain_apply none X W r s

include hx hw in
theorem full_apply (c : Dev nD) (t : Fin 8) (a b : Fin 1024) : fullV m c t (ix2 a b) = prodV X W (ix2 (rowF c a) (colF t b)) := by
  unfold fullV
  rw [tile_apply m X W hx hw, Finset.sum_range, prod_apply, ← sum_runs,
    ← (blkF_bijective c).sum_comp (fun g => ∑ k : Fin 512, X (ix2 (rowF c a) (runF g k)) * W (ix2 (runF g k) (colF t b)))]
  rfl

/-! ## The scale -/

/-- There is one index of a shape of one element. -/
theorem one_idx (i j : S1.Idx) : i = j := funext fun a => Fin.ext (by
  have h1 := (i a).isLt
  have h2 := (j a).isLt
  have h3 : S1.size a = 1 := by match a with | ⟨0, _⟩ => rfl
  omega)

/-- A maximum over every element is at most a bound when each element is. -/
theorem reduce_le {s : Shape} {axes : List (Fin s.rank)} (h : s.Reduces axes S1) (x : FVec Ideal s .f32) (j : S1.Idx) (z : EReal) :
    (multiReduction .maximumf axes S1 x 0xFF800000#32 h (.inl rfl) rfl j : EReal) ≤ z ↔ ∀ i, (x i : EReal) ≤ z := by
  refine (iff_of_eq (congrArg (fun q : EReal => q ≤ z) (multiReduction_maximumf_eq_fold x 0xFF800000#32 h (.inl rfl) rfl j))).trans ?_
  refine (Finset.fold_max_le (β := EReal) z).trans ?_
  rw [show (FloatOps.ofBits .f32 0xFF800000#32 : Ideal .f32) = (⊥ : EReal) from bot_bits]
  exact ⟨fun hh i => hh.2 i (Finset.mem_filter.2 ⟨Finset.mem_univ _, one_idx _ _⟩), fun hh => ⟨bot_le, fun i _ => hh i⟩⟩

theorem reshape_forall {s t : Shape} (h : s.numel = t.numel) (P : t.Idx → Prop) : (∀ i : s.Idx, P (Shape.reshapeEquiv h i)) ↔ ∀ j, P j :=
  ⟨fun hh j => by have := hh ((Shape.reshapeEquiv h).symm j); rwa [Equiv.apply_symm_apply] at this, fun hh i => hh _⟩

theorem max_le' (p q : Ideal .f32) (z : EReal) : (Scalar.maximumf p q : EReal) ≤ z ↔ (p : EReal) ≤ z ∧ (q : EReal) ≤ z := max_le_iff

/-- A maximum of absolute values is at most a bound when each of them is. -/
theorem maxAbs_le (p : Ideal .f32) (v : Tile Ideal) (z : EReal) :
    (maxAbs p v : EReal) ≤ z ↔ p ≤ z ∧ ∀ j, max (v j) (-(v j) : EReal) ≤ z := by
  unfold maxAbs
  refine (max_le' _ _ z).trans (and_congr_right fun _ => ?_)
  unfold extractAt
  exact (reduce_le _ _ _ z).trans (reshape_forall shapeCasts_S1024x1024_S1x1024x1024 fun j => max (v j) (-(v j) : EReal) ≤ z)

theorem maxV_le (c : Dev nD) (z : EReal) (n : ℕ) :
    (maxV m c n : EReal) ≤ z ↔ 0 ≤ z ∧ ∀ i < n, ∀ j, max (fullV m c ⟨i % 8, Nat.mod_lt _ (by decide)⟩ j)
      (-(fullV m c ⟨i % 8, Nat.mod_lt _ (by decide)⟩ j) : EReal) ≤ z := by
  induction n with
  | zero =>
    rw [show (maxV m c 0 : EReal) = 0 from zero_bits]
    exact ⟨fun h => ⟨h, fun i hi => absurd hi (Nat.not_lt_zero i)⟩, And.left⟩
  | succ n ih =>
    refine (maxAbs_le _ _ z).trans ?_
    rw [ih]
    constructor
    · rintro ⟨⟨h0, h1⟩, h2⟩
      refine ⟨h0, fun i hi => ?_⟩
      rcases Nat.lt_succ_iff_lt_or_eq.1 hi with h | rfl
      · exact h1 i h
      · exact h2
    · exact fun h => ⟨⟨h.1, fun i hi => h.2 i (Nat.lt_succ_of_lt hi)⟩, h.2 n (Nat.lt_succ_self n)⟩

/-- The maximum over the whole product, of absolute values. -/
def amaxR : S_.Idx → Ideal .f32 :=
  Host.reduce FloatOps.maximumf (Host.absf (prodV X W)) (constant S_ .f32 0xFF800000#32)
    Cert.ReferenceIdeal.Gen.facts.reducesTo_S4096x8192_S_d0_1 Cert.ReferenceIdeal.Gen.facts.h_S_

theorem amaxR_le (i : S_.Idx) (z : EReal) : (amaxR X W i : EReal) ≤ z ↔ ∀ j, max (prodV X W j) (-(prodV X W j) : EReal) ≤ z := by
  unfold amaxR
  rw [Host.reduce_eq_fold]
  refine (Finset.fold_max_le (β := EReal) z).trans ?_
  rw [show (constant S_ .f32 0xFF800000#32 : FVec Ideal S_ .f32) _ = (⊥ : EReal) from bot_bits]
  exact ⟨fun h j => h.2 j (Finset.mem_filter.2 ⟨Finset.mem_univ _, funext fun a => a.elim0⟩), fun h => ⟨bot_le, fun j _ => h j⟩⟩

theorem abs_nonneg' (y : EReal) : 0 ≤ max y (-y) := by
  rcases le_total 0 y with h | h
  · exact le_max_of_le_left h
  · exact le_max_of_le_right (by rwa [EReal.neg_nonneg])

/-- The maximum of what a device has gathered. -/
def topOf (v : Vec Ideal S4x8x128 .f32) : Ideal .f32 :=
  extractAt ![0, 0, 0, 0] (shapeCast S1x1x1x1 (multiReduction .maximumf [1, 2, 3] S1
    (shapeCast S1x4x8x128 v shapeCasts_S4x8x128_S1x4x8x128) 0xFF800000#32 reduces_S1x4x8x128_S1 (.inl rfl) rfl)
    shapeCasts_S1_S1x1x1x1) inpos_S1x1x1x1_p0_0_0_0

theorem topOf_le (v : Vec Ideal S4x8x128 .f32) (z : EReal) : (topOf v : EReal) ≤ z ↔ ∀ j, (v j : EReal) ≤ z := by
  unfold topOf extractAt
  exact (reduce_le _ _ _ z).trans (reshape_forall shapeCasts_S4x8x128_S1x4x8x128 fun j => (v j : EReal) ≤ z)

include hx hw in
/-- The gathered maximum is the maximum over the whole product. -/
theorem scale_eq (c : Dev nD) (i : S_.Idx) :
    scaleV m c = Host.divf (amaxR X W) (constant S_ .f32 0x42FE0000#32) i := by
  refine congrArg (fun q : EReal => Ideal.div q (Ideal.ofBits .f32 0x42FE0000#32))
    (a₁ := topOf (allV m c)) (eq_of_forall_ge_iff fun z => (topOf_le (allV m c) z).trans (Iff.trans ?_ (amaxR_le X W i z).symm))
  constructor
  · intro h j
    have h0 := j 0 |>.isLt; have h1 := j 1 |>.isLt
    change (j 0).val < 4096 at h0; change (j 1).val < 8192 at h1
    let d : Dev nD := ⟨(j 0).val / 1024, by show _ < 4; omega⟩
    let t : Fin 8 := ⟨(j 1).val / 1024, by omega⟩
    have e : j = ix2 (rowF d ⟨(j 0).val % 1024, Nat.mod_lt _ (by decide)⟩) (colF t ⟨(j 1).val % 1024, Nat.mod_lt _ (by decide)⟩) := by
      funext q; apply Fin.ext
      match q with
      | ⟨0, _⟩ => exact (Nat.div_add_mod _ 1024).symm
      | ⟨1, _⟩ => exact (Nat.div_add_mod _ 1024).symm
    have hd := h (ix3 (⟨(d.val + 4 - c.val) % 4, Nat.mod_lt _ (by decide)⟩ : Fin 4) (0 : Fin 8) (0 : Fin 128))
    rw [show allV m c (ix3 (⟨(d.val + 4 - c.val) % 4, Nat.mod_lt _ (by decide)⟩ : Fin 4) (0 : Fin 8) (0 : Fin 128)) = maxV m d 8 from
      congrArg (fun q => maxV m q 8) (Fin.ext (by
        show (c.val + (d.val + 4 - c.val) % 4) % 4 = d.val
        have := c.isLt; have := d.isLt; have : nD = 4 := rfl; omega)), maxV_le] at hd
    have := hd.2 t.val t.isLt (ix2 ⟨(j 0).val % 1024, Nat.mod_lt _ (by decide)⟩ ⟨(j 1).val % 1024, Nat.mod_lt _ (by decide)⟩)
    rw [show (⟨t.val % 8, Nat.mod_lt _ (by decide)⟩ : Fin 8) = t from Fin.ext (Nat.mod_eq_of_lt t.isLt), full_apply m X W hx hw, ← e] at this
    exact this
  · intro h j
    show (maxV m _ 8 : EReal) ≤ z
    rw [maxV_le]
    refine ⟨(abs_nonneg' _).trans (h (ix2 0 0)), fun i _ q => ?_⟩
    obtain ⟨a, b, rfl⟩ : ∃ a b : Fin 1024, q = ix2 a b := ⟨q 0, q 1, eq_ix2 q⟩
    rw [full_apply m X W hx hw]
    exact h _

/-! ## The result -/

/-- Multiplying by the reciprocal of a scale, rounding, clipping and multiplying by the scale is the same as
    dividing by it first: at a scale of zero both are zero. -/
theorem quant_apply (s : Ideal .f32) (y : Tile Ideal) (j : S1024x1024.Idx) :
    quant s y j = (min (Ideal.ofBits .f32 0x42FE0000#32) (max (Ideal.ofBits .f32 0xC2FE0000#32)
      (FloatOps.roundeven (F := Ideal) (φ := .f32) (Ideal.div (y j) s))) * s : EReal) := by
  unfold quant
  rw [keep_eq]
  show (min (Ideal.ofBits .f32 0x42FE0000#32) (max (Ideal.ofBits .f32 0xC2FE0000#32)
      (FloatOps.roundeven (F := Ideal) (φ := .f32) ((y j : EReal) * Ideal.div (Ideal.ofBits .f32 0x3F800000#32) s))) * s : EReal) = _
  by_cases hs : s = (0 : EReal)
  · rw [hs, mul_zero, mul_zero]
  · rw [one_bits]
    unfold Ideal.div
    rw [if_neg hs, if_neg hs, one_mul]

/-- The whole result. -/
def resultV : S4096x8192.Idx → Ideal .f32 := fun j =>
  (min (Ideal.ofBits .f32 0x42FE0000#32) (max (Ideal.ofBits .f32 0xC2FE0000#32)
    (FloatOps.roundeven (F := Ideal) (φ := .f32) (Ideal.div (prodV X W j) (Host.divf (amaxR X W) (constant S_ .f32 0x42FE0000#32) (fun a => a.elim0)))))
    * (Host.divf (amaxR X W) (constant S_ .f32 0x42FE0000#32) (fun a => a.elim0) : EReal) : EReal)

include hx hw in
theorem out_apply (c : Dev nD) (t : Fin 8) (a b : Fin 1024) : outV m c t (ix2 a b) = resultV X W (ix2 (rowF c a) (colF t b)) := by
  unfold outV
  rw [quant_apply, full_apply m X W hx hw, scale_eq m X W hx hw c (fun a => a.elim0)]
  rfl

end Cert.KernelIdeal.Own

end
-- ==== Proof.Result.lean ====
/-
  The reference's result is the whole result of the values proof, and what the launch leaves on a device is
  that device's rows of it.
-/
module

public import proofs.«01_k».proof.Proof.Value
public import proofs.«01_k».proof.Proof.Launch
public import proofs.«01_k».proof.Proof.Gen.ReferenceIdeal.Run

@[expose] public section

noncomputable section

namespace Cert.KernelIdeal.Own

open Cert.KernelIdeal.Gen
open Idealize.ShloMosaic Idealize.ShloMosaic.TcCoe Idealize.ShloMosaic.ValueIdx Idealize.SL.Sem

variable (m : (ℓ : Loc nD τ sig) → Buf (Elt Ideal) ℓ)
variable (X : Cert.ReferenceIdeal.S4096x4096.Idx → Ideal .f32) (W : S4096x8192.Idx → Ideal .f32)

/-- The rows a device has written are its rows of the whole result. -/
theorem out_block (hx : ∀ c : Dev nD, xv m c = Layout.block ⟨2, ![4096, 1024]⟩ ⟨2, ![4096, 4096]⟩ 1 4 c X tilesX)
    (hw : ∀ c : Dev nD, wv m c = W) (c : Dev nD) (Z : S1024x8192.Idx → Ideal .f32) (h : outOk m c Z) :
    Z = Layout.block ⟨2, ![1024, 8192]⟩ ⟨2, ![4096, 8192]⟩ 0 4 c (resultV X W) tilesY := by
  funext j
  obtain ⟨a, s, rfl⟩ : ∃ (a : Fin 1024) (s : Fin 8192), j = ix2 a s := ⟨j 0, j 1, eq_ix2 j⟩
  let t : Fin 8 := ⟨s.val / 1024, by omega⟩
  let b : Fin 1024 := ⟨s.val % 1024, Nat.mod_lt _ (by decide)⟩
  have hs : 1024 * t.val + b.val = s.val := Nat.div_add_mod _ _
  rw [show (ix2 a s : S1024x8192.Idx) = (tileR t).emb (ix2 a b) from ?_]
  · rw [show Z ((tileR t).emb (ix2 a b)) = outV m c t (ix2 a b) from h t (ix2 a b), out_apply m X W hx hw]
    refine congrArg (resultV X W) (funext fun q => Fin.ext ?_)
    match q with
    | ⟨0, _⟩ => show 1024 * c.val + a.val = c.val * 1024 + (0 + 1 * a.val); omega
    | ⟨1, _⟩ => show 1024 * t.val + b.val = 1024 * t.val + 1 * b.val; omega
  · funext q; apply Fin.ext
    match q with
    | ⟨0, _⟩ => show a.val = 0 + 1 * a.val; omega
    | ⟨1, _⟩ => show s.val = 1024 * t.val + 1 * b.val; omega

/-- The reference ends with the whole result. -/
theorem run_reference (m' : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ⟩ (fun r => ∀ c : Dev Cert.ReferenceIdeal.nD,
        r.2.mem ((c.tc : Thread Cert.ReferenceIdeal.nD Cert.ReferenceIdeal.τ).loc Cert.ReferenceIdeal.main_v9)
            = resultV (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) := by
  refine (θ_run Cert.ReferenceIdeal.defs _ _).mono (fun r h c => ⟨(h c).1.trans ?_, (h c).2⟩) (Cert.ReferenceIdeal.Value.run m' ρ)
  funext j
  have e (p q : S_.Idx) : p = q := funext fun a => a.elim0
  unfold resultV amaxR prodV
  exact congrArg₂ (fun p q : S_.Idx => (min (Ideal.ofBits .f32 0x42FE0000#32) (max (Ideal.ofBits .f32 0xC2FE0000#32)
    (FloatOps.roundeven (F := Ideal) (φ := .f32) (Ideal.div (prodV _ _ j) (Host.divf (amaxR _ _) (constant S_ .f32 0x42FE0000#32) p))))
      * (Host.divf (amaxR _ _) (constant S_ .f32 0x42FE0000#32) q : EReal) : EReal)) (e _ _) (e _ _)

end Cert.KernelIdeal.Own

end
-- ==== Proof.lean ====
/-
  The proof of the certificate's claims. The kernel's run is proved once, over any float values: the frames of
  the kernel and of its ideal program are that run with the values dropped, and the algebraic claim is the run
  on the extended reals beside the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Kernel

/-- The ideal program ends without fault, its arguments unchanged and its counters at zero, -/
theorem frame_ideal : Cert.quiescent_KernelIdeal := fun m ρ _ =>
  (θ_run Cert.KernelIdeal.defs _ _).mono (fun _ h => ⟨fun c => ⟨(h.1 c).1, (h.1 c).2.1⟩, h.2⟩)
    (Cert.KernelIdeal.Own.run_main (F := Ideal) m ρ)

/-- and so does the kernel -/
theorem frame_kernel : Cert.quiescent_Kernel := fun m ρ _ =>
  (θ_run Cert.KernelIdeal.defs _ _).mono (fun _ h => ⟨fun c => ⟨(h.1 c).1, (h.1 c).2.1⟩, h.2⟩)
    (Cert.KernelIdeal.Own.run_main (F := Bits) m ρ)

/-- and the reference. -/
theorem frame_reference : Cert.quiescent_ReferenceIdeal := fun m ρ _ =>
  (θ_run Cert.ReferenceIdeal.defs _ _).mono (fun r h => ⟨fun c => (h c).2, sem_eq_zero_of_no_sems (by rfl) r.2⟩)
    (Cert.KernelIdeal.Own.run_reference m ρ)

open Cert.KernelIdeal.Own in
/-- Every device ends with its rows of the reference's result. -/
theorem algebraic : Cert.algebraic_KernelIdeal_ReferenceIdeal := fun m g m' g' _ hm =>
  ⟨resultV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun r h c => ⟨out_block m _ _ (fun d => (hm d).1) (fun d => (hm d).2) c _ (h.1 c).2.2, (h.1 c).1, (h.1 c).2.1⟩)
      (run_main (F := Ideal) m g),
    (θ_run Cert.ReferenceIdeal.defs _ _).mono (fun r h => h 0) (run_reference m' g')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
